-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "loss_scale" .f32 0x350E38E4#32 ((5 / 9437184 : ℝ) : EReal)
  ∧ IdealRules.named_const.Statement Cert.KernelIdeal.κ "inv_rows" .f32 0x37E38E39#32 ((1 / 36864 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S36864x64 : Shape := ⟨2, ![36864, 64]⟩
abbrev S1024x64 : Shape := ⟨2, ![1024, 64]⟩
abbrev S_ : Shape := ⟨0, ![]⟩

class Facts : Prop where
  bcast_S_S36864x64 : S_.BroadcastsInDim S36864x64 (![] : Fin 0 → Fin S36864x64.rank)
  reducesTo_S36864x64_S_d0_1 : S36864x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S36864x64 .f32) (main_arg1 : FVec F S1024x64 .f32) : IVec S_ 1 :=
  let main_v0 : FVec F S36864x64 .f32 := Host.absf main_arg0
  let main_cst : FVec F S_ .f32 := constant S_ .f32 0x7F800000#32
  let main_v1 : FVec F S36864x64 .f32 := broadcastInDim S36864x64 ![] bcast_S_S36864x64 main_cst
  let main_v2 : IVec S36864x64 1 := cmpf .olt main_v0 main_v1
  let main_c : IVec S_ 1 := constantI S_ 1 1#1
  let main_v3 : IVec S_ 1 := (fun x v => Host.reduce IntOp.andi x v reducesTo_S36864x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S36864x64 : Shape := ⟨2, ![36864, 64]⟩
abbrev S1024x64 : Shape := ⟨2, ![1024, 64]⟩
abbrev S64x36864 : Shape := ⟨2, ![64, 36864]⟩
abbrev S6x1x6144 : Shape := ⟨3, ![6, 1, 6144]⟩
abbrev S1x1 : Shape := ⟨2, ![1, 1]⟩
abbrev S64x6144 : Shape := ⟨2, ![64, 6144]⟩
abbrev S1x1x6144 : Shape := ⟨3, ![1, 1, 6144]⟩
abbrev S1024x1 : Shape := ⟨2, ![1024, 1]⟩
abbrev S1024 : Shape := ⟨1, ![1024]⟩
abbrev S6144 : Shape := ⟨1, ![6144]⟩
abbrev S1x6144 : Shape := ⟨2, ![1, 6144]⟩
abbrev S1024x6144 : Shape := ⟨2, ![1024, 6144]⟩
abbrev S1x64x6144 : Shape := ⟨3, ![1, 64, 6144]⟩
abbrev S1 : Shape := ⟨1, ![1]⟩
abbrev S1x1x1 : Shape := ⟨3, ![1, 1, 1]⟩
abbrev S1x1024x1 : Shape := ⟨3, ![1, 1024, 1]⟩
abbrev S36864 : Shape := ⟨1, ![36864]⟩
abbrev S36864x1 : Shape := ⟨2, ![36864, 1]⟩
abbrev S_ : Shape := ⟨0, ![]⟩

abbrev nBuf : Space → Nat
  | .hbm => 12
  | .vmem => 11
  | .smem => 0
  | _ => 0

abbrev bufTy : (tb : Table) → Fin (tcTables nBuf tb) → BufTy
  | .hbm, ⟨0, _⟩ => ⟨S36864x64, .f32⟩
  | .hbm, ⟨1, _⟩ => ⟨S1024x64, .f32⟩
  | .hbm, ⟨2, _⟩ => ⟨S64x36864, .f32⟩
  | .hbm, ⟨3, _⟩ => ⟨S64x36864, .f32⟩
  | .hbm, ⟨4, _⟩ => ⟨S6x1x6144, .i32⟩
  | .hbm, ⟨5, _⟩ => ⟨S1x1, .f32⟩
  | .hbm, ⟨6, _⟩ => ⟨S1x1, .f32⟩
  | .hbm, ⟨7, _⟩ => ⟨S36864, .i32⟩
  | .hbm, ⟨8, _⟩ => ⟨S36864x1, .i32⟩
  | .hbm, ⟨9, _⟩ => ⟨S36864x64, .f32⟩
  | .hbm, ⟨10, _⟩ => ⟨S_, .f32⟩
  | .hbm, ⟨11, _⟩ => ⟨S_, .f32⟩
  | .local _ .vmem, ⟨0, _⟩ => ⟨S64x6144, .f32⟩
  | .local _ .vmem, ⟨1, _⟩ => ⟨S64x6144, .f32⟩
  | .local _ .vmem, ⟨2, _⟩ => ⟨S1024x64, .f32⟩
  | .local _ .vmem, ⟨3, _⟩ => ⟨S64x6144, .f32⟩
  | .local _ .vmem, ⟨4, _⟩ => ⟨S64x6144, .f32⟩
  | .local _ .vmem, ⟨5, _⟩ => ⟨S1x1x6144, .i32⟩
  | .local _ .vmem, ⟨6, _⟩ => ⟨S1x1x6144, .i32⟩
  | .local _ .vmem, ⟨7, _⟩ => ⟨S1x1, .f32⟩
  | .local _ .vmem, ⟨8, _⟩ => ⟨S1x1, .f32⟩
  | .local _ .vmem, ⟨9, _⟩ => ⟨S1024x1, .f32⟩
  | .local _ .vmem, ⟨10, _⟩ => ⟨S1x1, .f32⟩
  | _, _ => ⟨S36864x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32 : BitVec 32 := 5#32
  let v65 : BitVec 1 := Scalar.cmpi .eq arg0 c5_i32
  let v66 : BitVec 32 := Scalar.extui v65
  let c0_i32_26 : BitVec 32 := 0#32
  let v67 : BitVec 1 := Scalar.cmpi .ne v66 c0_i32_26
  v67

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv_rows" => some ((1 / 36864 : ℝ) : EReal)
  | "loss_scale" => some ((5 / 9437184 : ℝ) : EReal)
  | _ => none
-- ==== ReferenceIdeal.lean ====
abbrev S36864x64 : Shape := ⟨2, ![36864, 64]⟩
abbrev S1024x64 : Shape := ⟨2, ![1024, 64]⟩
abbrev S_ : Shape := ⟨0, ![]⟩
abbrev S36864 : Shape := ⟨1, ![36864]⟩
abbrev S36864x1 : Shape := ⟨2, ![36864, 1]⟩
abbrev S1024 : Shape := ⟨1, ![1024]⟩
abbrev S1x1024 : Shape := ⟨2, ![1, 1024]⟩
abbrev S36864x1024 : Shape := ⟨2, ![36864, 1024]⟩
abbrev S64x1024 : Shape := ⟨2, ![64, 1024]⟩

abbrev nBuf : Space → Nat
  | .hbm => 63
  | .vmem => 0
  | .smem => 0
  | _ => 0

abbrev bufTy : (tb : Table) → Fin (tcTables nBuf tb) → BufTy
  | .hbm, ⟨0, _⟩ => ⟨S36864x64, .f32⟩
  | .hbm, ⟨1, _⟩ => ⟨S1024x64, .f32⟩
  | .hbm, ⟨2, _⟩ => ⟨S36864x64, .f32⟩
  | .hbm, ⟨3, _⟩ => ⟨S_, .f32⟩
  | .hbm, ⟨4, _⟩ => ⟨S36864, .f32⟩
  | .hbm, ⟨5, _⟩ => ⟨S36864x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S36864x1024, .f32⟩
  | .hbm, ⟨11, _⟩ => ⟨S36864x1024, .f32⟩
  | .hbm, ⟨12, _⟩ => ⟨S36864x1024, .f32⟩
  | .hbm, ⟨13, _⟩ => ⟨S64x1024, .f32⟩
  | .hbm, ⟨14, _⟩ => ⟨S36864x1024, .f32⟩
  | .hbm, ⟨15, _⟩ => ⟨S_, .f32⟩
  | .hbm, ⟨16, _⟩ => ⟨S36864x1024, .f32⟩
  | .hbm, ⟨17, _⟩ => ⟨S36864x1024, .f32⟩
  | .hbm, ⟨18, _⟩ => ⟨S36864x1024, .f32⟩
  | .hbm, ⟨19, _⟩ => ⟨S36864x1024, .i32⟩
  | .hbm, ⟨20, _⟩ => ⟨S_, .f32⟩
  | .hbm, ⟨21, _⟩ => ⟨S_, .i32⟩
  | .hbm, ⟨22, _⟩ => ⟨S36864, .f32⟩
  | .hbm, ⟨23, _⟩ => ⟨S36864, .i32⟩
  | .hbm, ⟨24, _⟩ => ⟨S36864x1, .i32⟩
  | .hbm, ⟨25, _⟩ => ⟨S1x1024, .i32⟩
  | .hbm, ⟨26, _⟩ => ⟨S36864x1024, .i32⟩
  | .hbm, ⟨27, _⟩ => ⟨S36864x1024, .i32⟩
  | .hbm, ⟨28, _⟩ => ⟨S36864x1024, .i1⟩
  | .hbm, ⟨29, _⟩ => ⟨S36864x1024, .f32⟩
  | .hbm, ⟨30, _⟩ => ⟨S36864x64, .f32⟩
  | .hbm, ⟨31, _⟩ => ⟨S36864x64, .f32⟩
  | .hbm, ⟨32, _⟩ => ⟨S36864x64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S36864x64, .f32⟩
  | .hbm, ⟨38, _⟩ => ⟨S36864x64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S36864x64, .f32⟩
  | .hbm, ⟨47, _⟩ => ⟨S36864x64, .f32⟩
  | .hbm, ⟨48, _⟩ => ⟨S_, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S36864x1, .i32⟩
  | _, _ => ⟨S36864x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_cst_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]
-- ==== Proof.Names.lean ====
/- The named constants of the ideal kernel: each rounded literal of the kernel stands for the real number its expression denotes. -/
module

public import proofs.«01_k».proof.Defs

@[expose] public section

noncomputable section

namespace Cert.Proof

open Idealize.ShloMosaic

/-- The two named constants are what the kernel's table says: `loss_scale` is `(1 + 1/4) / (36864 · 64)` and `inv_rows`
    is `1 / 36864`. -/
theorem preserves : Cert.preserves_Kernel_KernelIdeal :=
  ⟨IdealRules.named_const.statement Cert.KernelIdeal.κ "loss_scale" .f32 0x350E38E4#32 ((5 / 9437184 : ℝ) : EReal) rfl,
    IdealRules.named_const.statement Cert.KernelIdeal.κ "inv_rows" .f32 0x37E38E39#32 ((1 / 36864 : ℝ) : EReal) rfl⟩

end Cert.Proof

end
-- ==== Proof.RefRun.lean ====
/- What the reference program computes, stage by stage, as functions of its two arguments; and its run: every run ends with
   the four result arrays holding these functions of the arguments. -/
module

public import proofs.«01_k».proof.Defs
public import proofs.«01_k».proof.Proof.Gen.ReferenceIdeal
public import Idealize.ShloMosaic.Lib.Claim
public import Idealize.ShloMosaic.Lib.Quiescent

@[expose] public section

noncomputable section

namespace Cert.ReferenceIdeal.Ref

open Cert.ReferenceIdeal Cert.ReferenceIdeal.Facts₀ Idealize.ShloMosaic Idealize.SL.Sem

variable {F : FTy → Type} [FloatOps F]

/-- The squared distances: row `n` of `z` against row `k` of the codebook, as `|z|² + |c|² - 2 z·c`. -/
def dist (z : FVec F S36864x64 .f32) (c : FVec F S1024x64 .f32) : FVec F S36864x1024 .f32 :=
  subf
    (addf
      (broadcastInDim S36864x1024 ![0, 1] bcast_S36864x1_S36864x1024_0_1
        (broadcastInDim S36864x1 ![0] bcast_S36864_S36864x1_0
          (Host.reduceAdd (mulf z z) (constant S_ .f32 0x00000000#32) reducesTo_S36864x64_S36864_d1 h_S_)))
      (broadcastInDim S36864x1024 ![0, 1] bcast_S1x1024_S36864x1024_0_1
        (broadcastInDim S1x1024 ![1] bcast_S1024_S1x1024_1
          (Host.reduceAdd (mulf c c) (constant S_ .f32 0x00000000#32) reducesTo_S1024x64_S1024_d1 h_S_))))
    (mulf (broadcastInDim S36864x1024 ![] bcast_S_S36864x1024 (constant S_ .f32 0x40000000#32))
      (Host.dotGeneral dot_S36864x64_S64x1024_S36864x1024_1_0_0_1_n_n none z
        (transpose S64x1024 [1, 0] c transposes_S1024x64_S64x1024_1_0)))

/-- The index of the smallest entry of each row, the first one on a tie. -/
def argmin (d : FVec F S36864x1024 .f32) : IVec S36864 32 := fun j =>
  (Host.argReduce reducer_argmin_f32_i32 d (iotaInDim S36864x1024 32 1) (constant S_ .f32 0x7F800000#32)
    (constantI S_ 32 0#32) reducesTo_S36864x1024_S36864_d1 h_S_ j).2

/-- The one-hot rows of the indices. -/
def oneHot (i : IVec S36864 32) : FVec F S36864x1024 .f32 :=
  uitofp .f32 (cmpi .eq
    (broadcastInDim S36864x1024 ![0, 1] bcast_S36864x1_S36864x1024_0_1
      (broadcastInDim S36864x1 ![0] bcast_S36864_S36864x1_0 i))
    (broadcastInDim S36864x1024 ![0, 1] bcast_S1x1024_S36864x1024_0_1 (iotaInDim S1x1024 32 1)))

/-- The quantised rows: one-hot rows times the codebook. -/
def quant (o : FVec F S36864x1024 .f32) (c : FVec F S1024x64 .f32) : FVec F S36864x64 .f32 :=
  Host.dotGeneral dot_S36864x1024_S1024x64_S36864x64_1_0_0_1_n_n none o c

/-- The mean of the squares of the difference of the quantised rows and the input. -/
def mse (q z : FVec F S36864x64 .f32) : FVec F S_ .f32 :=
  Host.divf (Host.reduceAdd (mulf (subf q z) (subf q z)) (constant S_ .f32 0x00000000#32) reducesTo_S36864x64_S_d0_1 h_S_)
    (constant S_ .f32 0x4A100000#32)

/-- The loss: the mean square plus a quarter of it. -/
def loss (q z : FVec F S36864x64 .f32) : FVec F S_ .f32 :=
  addf (mse q z) (mulf (constant S_ .f32 0x3E800000#32) (mse q z))

/-- The straight-through result. -/
def straight (q z : FVec F S36864x64 .f32) : FVec F S36864x64 .f32 := addf z (subf q z)

/-- The share of the rows each code takes. -/
def share (o : FVec F S36864x1024 .f32) : FVec F S1024 .f32 :=
  Host.divf (Host.reduceAdd o (constant S_ .f32 0x00000000#32) reducesTo_S36864x1024_S1024_d0 h_S_)
    (broadcastInDim S1024 ![] bcast_S_S1024 (constant S_ .f32 0x47100000#32))

/-- The perplexity of the shares. -/
def perplexity (e : FVec F S1024 .f32) : FVec F S_ .f32 :=
  Host.exp (Host.negf (Host.reduceAdd
    (mulf e (Host.log (addf e (broadcastInDim S1024 ![] bcast_S_S1024 (constant S_ .f32 0x2EDBE6FF#32)))))
    (constant S_ .f32 0x00000000#32) reducesTo_S1024_S_d0 h_S_))

/-- The code indices as a column. -/
def column (i : IVec S36864 32) : IVec S36864x1 32 := broadcastInDim S36864x1 ![0] bcast_S36864_S36864x1_0 i

/-- The indices of the nearest codes, of the two arguments. -/
def idx (z : FVec F S36864x64 .f32) (c : FVec F S1024x64 .f32) : IVec S36864 32 := argmin (dist z c)
/-- The marks of the codes the rows take. -/
def hot (z : FVec F S36864x64 .f32) (c : FVec F S1024x64 .f32) : FVec F S36864x1024 .f32 := oneHot (idx z c)
/-- The codes the rows take, one a row. -/
def rows (z : FVec F S36864x64 .f32) (c : FVec F S1024x64 .f32) : FVec F S36864x64 .f32 := quant (hot z c) c

/-- The reference's operations, in order, the bodies of its two functions in place of their calls. -/
abbrev ops : List (HloOp τ sig (Elt F)) :=
  [ StableHlo.binary main_arg0 main_arg0 main_v0 (mulf : (⟨S36864x64, .f32⟩ : BufTy).Contents (Elt F) → (⟨S36864x64, .f32⟩ : BufTy).Contents (Elt F) → (⟨S36864x64, .f32⟩ : BufTy).Contents (Elt F)),
    StableHlo.nullary main_cst (constant S_ .f32 0x00000000#32),
    StableHlo.binary main_v0 main_cst main_v1 ((fun x v => Host.reduceAdd x v reducesTo_S36864x64_S36864_d1 h_S_) : (⟨S36864x64, .f32⟩ : BufTy).Contents (Elt F) → (⟨S_, .f32⟩ : BufTy).Contents (Elt F) → (⟨S36864, .f32⟩ : BufTy).Contents (Elt F)),
    StableHlo.unary main_v1 main_v2 (broadcastInDim S36864x1 ![0] bcast_S36864_S36864x1_0 : (⟨S36864, .f32⟩ : BufTy).Contents (Elt F) → (⟨S36864x1, .f32⟩ : BufTy).Contents (Elt F)),
    StableHlo.binary main_arg1 main_arg1 main_v3 (mulf : (⟨S1024x64, .f32⟩ : BufTy).Contents (Elt F) → (⟨S1024x64, .f32⟩ : BufTy).Contents (Elt F) → (⟨S1024x64, .f32⟩ : BufTy).Contents (Elt F)),
    StableHlo.nullary main_cst_0 (constant S_ .f32 0x00000000#32),
    StableHlo.binary main_v3 main_cst_0 main_v4 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    StableHlo.unary main_v4 main_v5 (broadcastInDim S1x1024 ![1] bcast_S1024_S1x1024_1 : (⟨S1024, .f32⟩ : BufTy).Contents (Elt F) → (⟨S1x1024, .f32⟩ : BufTy).Contents (Elt F)),
    StableHlo.unary main_v2 main_v6 (broadcastInDim S36864x1024 ![0, 1] bcast_S36864x1_S36864x1024_0_1 : (⟨S36864x1, .f32⟩ : BufTy).Contents (Elt F) → (⟨S36864x1024, .f32⟩ : BufTy).Contents (Elt F)),
    StableHlo.unary main_v5 main_v7 (broadcastInDim S36864x1024 ![0, 1] bcast_S1x1024_S36864x1024_0_1 : (⟨S1x1024, .f32⟩ : BufTy).Contents (Elt F) → (⟨S36864x1024, .f32⟩ : BufTy).Contents (Elt F)),
    StableHlo.binary main_v6 main_v7 main_v8 (addf : (⟨S36864x1024, .f32⟩ : BufTy).Contents (Elt F) → (⟨S36864x1024, .f32⟩ : BufTy).Contents (Elt F) → (⟨S36864x1024, .f32⟩ : BufTy).Contents (Elt F)),
    StableHlo.unary main_arg1 main_v9 ((transpose S64x1024 [1, 0] · transposes_S1024x64_S64x1024_1_0) : (⟨S1024x64, .f32⟩ : BufTy).Contents (Elt F) → (⟨S64x1024, .f32⟩ : BufTy).Contents (Elt F)),
    StableHlo.binary main_arg0 main_v9 main_v10 ((fun l r => Host.dotGeneral dot_S36864x64_S64x1024_S36864x1024_1_0_0_1_n_n none l r) : (⟨S36864x64, .f32⟩ : BufTy).Contents (Elt F) → (⟨S64x1024, .f32⟩ : BufTy).Contents (Elt F) → (⟨S36864x1024, .f32⟩ : BufTy).Contents (Elt F)),
    StableHlo.nullary main_cst_1 (constant S_ .f32 0x40000000#32),
    StableHlo.unary main_cst_1 main_v11 (broadcastInDim S36864x1024 ![] bcast_S_S36864x1024 : (⟨S_, .f32⟩ : BufTy).Contents (Elt F) → (⟨S36864x1024, .f32⟩ : BufTy).Contents (Elt F)),
    StableHlo.binary main_v11 main_v10 main_v12 (mulf : (⟨S36864x1024, .f32⟩ : BufTy).Contents (Elt F) → (⟨S36864x1024, .f32⟩ : BufTy).Contents (Elt F) → (⟨S36864x1024, .f32⟩ : BufTy).Contents (Elt F)),
    StableHlo.binary main_v8 main_v12 main_v13 (subf : (⟨S36864x1024, .f32⟩ : BufTy).Contents (Elt F) → (⟨S36864x1024, .f32⟩ : BufTy).Contents (Elt F) → (⟨S36864x1024, .f32⟩ : BufTy).Contents (Elt F)),
    StableHlo.TRef.nullary main_call0.v0 (iotaInDim S36864x1024 32 1),
    StableHlo.TRef.nullary main_call0.cst (constant S_ .f32 0x7F800000#32),
    StableHlo.TRef.nullary main_call0.c (constantI S_ 32 0#32),
    StableHlo.TRef.quaternary (.of main_v13 : StableHlo.TRef sig ⟨S36864x1024, .f32⟩) main_call0.v0 main_call0.cst main_call0.c main_call0.v1_0 (fun x y u v j => (Host.argReduce reducer_argmin_f32_i32 x y u v reducesTo_S36864x1024_S36864_d1 h_S_ j).1),
    StableHlo.TRef.quaternary (.of main_v13 : StableHlo.TRef sig ⟨S36864x1024, .f32⟩) main_call0.v0 main_call0.cst main_call0.c main_call0.v1_1 (fun x y u v j => (Host.argReduce reducer_argmin_f32_i32 x y u v reducesTo_S36864x1024_S36864_d1 h_S_ j).2),
    StableHlo.TRef.unary (.of main_v14 : StableHlo.TRef sig ⟨S36864, .i32⟩) main_call1.v0 (broadcastInDim S36864x1 ![0] bcast_S36864_S36864x1_0),
    StableHlo.TRef.nullary main_call1.v1 (iotaInDim S1x1024 32 1),
    StableHlo.TRef.unary main_call1.v0 main_call1.v2 (broadcastInDim S36864x1024 ![0, 1] bcast_S36864x1_S36864x1024_0_1),
    StableHlo.TRef.unary main_call1.v1 main_call1.v3 (broadcastInDim S36864x1024 ![0, 1] bcast_S1x1024_S36864x1024_0_1),
    StableHlo.TRef.binary main_call1.v2 main_call1.v3 main_call1.v4 (cmpi .eq),
    StableHlo.TRef.unary main_call1.v4 main_call1.v5 (uitofp .f32),
    StableHlo.binary main_v15 main_arg1 main_v16 ((fun l r => Host.dotGeneral dot_S36864x1024_S1024x64_S36864x64_1_0_0_1_n_n none l r) : (⟨S36864x1024, .f32⟩ : BufTy).Contents (Elt F) → (⟨S1024x64, .f32⟩ : BufTy).Contents (Elt F) → (⟨S36864x64, .f32⟩ : BufTy).Contents (Elt F)),
    StableHlo.binary main_v16 main_arg0 main_v17 (subf : (⟨S36864x64, .f32⟩ : BufTy).Contents (Elt F) → (⟨S36864x64, .f32⟩ : BufTy).Contents (Elt F) → (⟨S36864x64, .f32⟩ : BufTy).Contents (Elt F)),
    StableHlo.binary main_v17 main_v17 main_v18 (mulf : (⟨S36864x64, .f32⟩ : BufTy).Contents (Elt F) → (⟨S36864x64, .f32⟩ : BufTy).Contents (Elt F) → (⟨S36864x64, .f32⟩ : BufTy).Contents (Elt F)),
    StableHlo.nullary main_cst_2 (constant S_ .f32 0x00000000#32),
    StableHlo.binary main_v18 main_cst_2 main_v19 ((fun x v => Host.reduceAdd x v reducesTo_S36864x64_S_d0_1 h_S_) : (⟨S36864x64, .f32⟩ : BufTy).Contents (Elt F) → (⟨S_, .f32⟩ : BufTy).Contents (Elt F) → (⟨S_, .f32⟩ : BufTy).Contents (Elt F)),
    StableHlo.nullary main_cst_3 (constant S_ .f32 0x4A100000#32),
    StableHlo.binary main_v19 main_cst_3 main_v20 (Host.divf : (⟨S_, .f32⟩ : BufTy).Contents (Elt F) → (⟨S_, .f32⟩ : BufTy).Contents (Elt F) → (⟨S_, .f32⟩ : BufTy).Contents (Elt F)),
    StableHlo.binary main_v16 main_arg0 main_v21 (subf : (⟨S36864x64, .f32⟩ : BufTy).Contents (Elt F) → (⟨S36864x64, .f32⟩ : BufTy).Contents (Elt F) → (⟨S36864x64, .f32⟩ : BufTy).Contents (Elt F)),
    StableHlo.binary main_v21 main_v21 main_v22 (mulf : (⟨S36864x64, .f32⟩ : BufTy).Contents (Elt F) → (⟨S36864x64, .f32⟩ : BufTy).Contents (Elt F) → (⟨S36864x64, .f32⟩ : BufTy).Contents (Elt F)),
    StableHlo.nullary main_cst_4 (constant S_ .f32 0x00000000#32),
    StableHlo.binary main_v22 main_cst_4 main_v23 ((fun x v => Host.reduceAdd x v reducesTo_S36864x64_S_d0_1 h_S_) : (⟨S36864x64, .f32⟩ : BufTy).Contents (Elt F) → (⟨S_, .f32⟩ : BufTy).Contents (Elt F) → (⟨S_, .f32⟩ : BufTy).Contents (Elt F)),
    StableHlo.nullary main_cst_5 (constant S_ .f32 0x4A100000#32),
    StableHlo.binary main_v23 main_cst_5 main_v24 (Host.divf : (⟨S_, .f32⟩ : BufTy).Contents (Elt F) → (⟨S_, .f32⟩ : BufTy).Contents (Elt F) → (⟨S_, .f32⟩ : BufTy).Contents (Elt F)),
    StableHlo.nullary main_cst_6 (constant S_ .f32 0x3E800000#32),
    StableHlo.binary main_cst_6 main_v24 main_v25 (mulf : (⟨S_, .f32⟩ : BufTy).Contents (Elt F) → (⟨S_, .f32⟩ : BufTy).Contents (Elt F) → (⟨S_, .f32⟩ : BufTy).Contents (Elt F)),
    StableHlo.binary main_v20 main_v25 main_v26 (addf : (⟨S_, .f32⟩ : BufTy).Contents (Elt F) → (⟨S_, .f32⟩ : BufTy).Contents (Elt F) → (⟨S_, .f32⟩ : BufTy).Contents (Elt F)),
    StableHlo.binary main_v16 main_arg0 main_v27 (subf : (⟨S36864x64, .f32⟩ : BufTy).Contents (Elt F) → (⟨S36864x64, .f32⟩ : BufTy).Contents (Elt F) → (⟨S36864x64, .f32⟩ : BufTy).Contents (Elt F)),
    StableHlo.binary main_arg0 main_v27 main_v28 (addf : (⟨S36864x64, .f32⟩ : BufTy).Contents (Elt F) → (⟨S36864x64, .f32⟩ : BufTy).Contents (Elt F) → (⟨S36864x64, .f32⟩ : BufTy).Contents (Elt F)),
    StableHlo.nullary main_cst_7 (constant S_ .f32 0x00000000#32),
    StableHlo.binary main_v15 main_cst_7 main_v29 ((fun x v => Host.reduceAdd x v reducesTo_S36864x1024_S1024_d0 h_S_) : (⟨S36864x1024, .f32⟩ : BufTy).Contents (Elt F) → (⟨S_, .f32⟩ : BufTy).Contents (Elt F) → (⟨S1024, .f32⟩ : BufTy).Contents (Elt F)),
    StableHlo.nullary main_cst_8 (constant S_ .f32 0x47100000#32),
    StableHlo.unary main_cst_8 main_v30 (broadcastInDim S1024 ![] bcast_S_S1024 : (⟨S_, .f32⟩ : BufTy).Contents (Elt F) → (⟨S1024, .f32⟩ : BufTy).Contents (Elt F)),
    StableHlo.binary main_v29 main_v30 main_v31 (Host.divf : (⟨S1024, .f32⟩ : BufTy).Contents (Elt F) → (⟨S1024, .f32⟩ : BufTy).Contents (Elt F) → (⟨S1024, .f32⟩ : BufTy).Contents (Elt F)),
    StableHlo.nullary main_cst_9 (constant S_ .f32 0x2EDBE6FF#32),
    StableHlo.unary main_cst_9 main_v32 (broadcastInDim S1024 ![] bcast_S_S1024 : (⟨S_, .f32⟩ : BufTy).Contents (Elt F) → (⟨S1024, .f32⟩ : BufTy).Contents (Elt F)),
    StableHlo.binary main_v31 main_v32 main_v33 (addf : (⟨S1024, .f32⟩ : BufTy).Contents (Elt F) → (⟨S1024, .f32⟩ : BufTy).Contents (Elt F) → (⟨S1024, .f32⟩ : BufTy).Contents (Elt F)),
    StableHlo.unary main_v33 main_v34 (Host.log : (⟨S1024, .f32⟩ : BufTy).Contents (Elt F) → (⟨S1024, .f32⟩ : BufTy).Contents (Elt F)),
    StableHlo.binary main_v31 main_v34 main_v35 (mulf : (⟨S1024, .f32⟩ : BufTy).Contents (Elt F) → (⟨S1024, .f32⟩ : BufTy).Contents (Elt F) → (⟨S1024, .f32⟩ : BufTy).Contents (Elt F)),
    StableHlo.nullary main_cst_10 (constant S_ .f32 0x00000000#32),
    StableHlo.binary main_v35 main_cst_10 main_v36 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    StableHlo.unary main_v36 main_v37 (Host.negf : (⟨S_, .f32⟩ : BufTy).Contents (Elt F) → (⟨S_, .f32⟩ : BufTy).Contents (Elt F)),
    StableHlo.unary main_v37 main_v38 (Host.exp : (⟨S_, .f32⟩ : BufTy).Contents (Elt F) → (⟨S_, .f32⟩ : BufTy).Contents (Elt F)),
    StableHlo.unary main_v14 main_v39 (broadcastInDim S36864x1 ![0] bcast_S36864_S36864x1_0 : (⟨S36864, .i32⟩ : BufTy).Contents (Elt F) → (⟨S36864x1, .i32⟩ : BufTy).Contents (Elt F)) ]

set_option maxRecDepth 8000 in
/-- The reference program is the straight line of its operations. -/
theorem main_eq (d : Dev nD) : StableHlo.IsSeq (main (F := F) d) (ops (F := F)) := by
  unfold StableHlo.IsSeq
  rfl

set_option maxRecDepth 8000 in
/-- No operation allocates. -/
theorem ops_fresh : ∀ op ∈ (ops : List (HloOp τ sig (Elt F))), op.fresh = ∅ := by
  intro _ h; (repeat (cases h with | head => rfl | tail _ h => ?_)); exact nomatch h

set_option maxRecDepth 8000 in
/-- The run of the reference: its results are the stages above, and its arguments are unchanged. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v28)
        = straight (rows (m ((c.tc : Thread nD τ).loc main_arg0)) (m ((c.tc : Thread nD τ).loc main_arg1))) (m ((c.tc : Thread nD τ).loc main_arg0))
      ∧ r.2.mem ((c.tc : Thread nD τ).loc main_v26)
        = loss (rows (m ((c.tc : Thread nD τ).loc main_arg0)) (m ((c.tc : Thread nD τ).loc main_arg1))) (m ((c.tc : Thread nD τ).loc main_arg0))
      ∧ r.2.mem ((c.tc : Thread nD τ).loc main_v39)
        = column (idx (m ((c.tc : Thread nD τ).loc main_arg0)) (m ((c.tc : Thread nD τ).loc main_arg1)))
      ∧ r.2.mem ((c.tc : Thread nD τ).loc main_v38)
        = perplexity (share (hot (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from (StableHlo.run_hlo _ _ main_eq (by decide) (by decide) (by simp) ops_fresh m g)
  all_goals simp -implicitDefEqProofs only [StableHlo.TRef.toBuf, StableHlo.TRef.ofBuf, cast_cast, cast_eq]
  · rfl
  · rfl
  · rfl
  · rfl

end Cert.ReferenceIdeal.Ref

end
-- ==== Proof.Frames.lean ====
/- The runs of the three programs end with their arguments unchanged and every semaphore at zero. -/
module

public import proofs.«01_k».proof.Defs
public import proofs.«01_k».proof.Proof.Gen.Kernel.Frame
public import proofs.«01_k».proof.Proof.Gen.KernelIdeal.Frame
public import proofs.«01_k».proof.Proof.RefRun
public import Idealize.ShloMosaic.Lib.Quiescent

@[expose] public section

noncomputable section

namespace Cert.Proof

open Idealize.ShloMosaic Idealize.SL.Sem

/-- The kernel at machine floats: it runs, keeps its arguments and leaves the machine quiescent. -/
theorem frame_kernel : Cert.quiescent_Kernel := fun m g _ => Cert.Kernel.Gen.frame m g

/-- The same for the kernel at ideal floats. -/
theorem frame_kernelIdeal : Cert.quiescent_KernelIdeal := fun m g _ => Cert.KernelIdeal.Gen.frame m g

/-- The same for the reference at ideal floats. -/
theorem frame_referenceIdeal : Cert.quiescent_ReferenceIdeal := fun m g _ =>
  (θ_run Cert.ReferenceIdeal.defs _ _).mono
    (fun r h => ⟨fun c => (h c).2.2.2.2, sem_eq_zero_of_no_sems (by decide) r.2⟩)
    (Cert.ReferenceIdeal.Ref.run (F := Ideal) m g)

end Cert.Proof

end
-- ==== Proof.Consts.lean ====
/- The values, as extended reals, of the float literals that the two programs write and of the two named constants. -/
module

public import proofs.«01_k».proof.Defs
public import Idealize.ShloMosaic.Lib.Claim

@[expose] public section

noncomputable section

namespace Cert.Proof.Consts

open Idealize.ShloMosaic

/-- The start of a minimum is plus infinity. -/
theorem inf : Ideal.ofBits .f32 0x7F800000#32 = (⊤ : EReal) := by
  simp [Ideal.ofBits, Ideal.ieee]

/-- The factor of the kernel's codes is minus two. -/
theorem neg_two : Ideal.ofBits .f32 0xC0000000#32 = ((-2 : ℝ) : EReal) := by
  simp [Ideal.ofBits, Ideal.ieee, -EReal.coe_mul]; norm_num

/-- The factor of the reference's products is two. -/
theorem two : Ideal.ofBits .f32 0x40000000#32 = ((2 : ℝ) : EReal) := by
  simp [Ideal.ofBits, Ideal.ieee, -EReal.coe_mul]; norm_num

/-- The index that stands where a code is not the nearest is the number of codes. -/
theorem codes : Ideal.ofBits .f32 0x44800000#32 = ((1024 : ℝ) : EReal) := by
  simp [Ideal.ofBits, Ideal.ieee, -EReal.coe_mul]; norm_num

/-- The commitment cost is a quarter. -/
theorem quarter : Ideal.ofBits .f32 0x3E800000#32 = ((1 / 4 : ℝ) : EReal) := by
  simp [Ideal.ofBits, Ideal.ieee, -EReal.coe_mul]; norm_num

/-- The number of entries of the latent array. -/
theorem entries : Ideal.ofBits .f32 0x4A100000#32 = ((2359296 : ℝ) : EReal) := by
  simp [Ideal.ofBits, Ideal.ieee, -EReal.coe_mul]; norm_num

/-- The number of rows of the latent array. -/
theorem rows : Ideal.ofBits .f32 0x47100000#32 = ((36864 : ℝ) : EReal) := by
  simp [Ideal.ofBits, Ideal.ieee, -EReal.coe_mul]; norm_num

/-- The factor of the loss: five quarters over the number of entries. -/
theorem loss_scale :
    Named.named (F := Ideal) (φ := .f32) KernelIdeal.κ "loss_scale" 0x350E38E4#32 = ((5 / 9437184 : ℝ) : EReal) :=
  IdealRules.named_const.ideal_named_scalar _ _ _ _ rfl

/-- The factor of the counts: one over the number of rows. -/
theorem inv_rows :
    Named.named (F := Ideal) (φ := .f32) KernelIdeal.κ "inv_rows" 0x37E38E39#32 = ((1 / 36864 : ℝ) : EReal) :=
  IdealRules.named_const.ideal_named_scalar _ _ _ _ rfl

end Cert.Proof.Consts

end
-- ==== Proof.Pre.lean ====
/- The precondition, read at an element: where it holds, every entry of the two arguments is a real number. -/
module

public import proofs.«01_k».proof.Defs
public import proofs.«01_k».proof.Proof.Consts
public import Idealize.ShloMosaic.Lib.ReduceAll
public import Idealize.ShloMosaic.Lib.Affine
public import Idealize.ShloMosaic.Lib.Claim
public import Idealize.ShloMosaic.PureOps.Ideal.Laws

@[expose] public section

noncomputable section

namespace Cert.Proof.Pre

open Idealize.ShloMosaic

/-- The shape conditions of the precondition's operations. -/
theorem facts : Cert.Pre_finite.Facts where
  bcast_S_S36864x64 := by decide
  reducesTo_S36864x64_S_d0_1 := by decide
  h_S_ := by decide
  bcast_S_S1024x64 := by decide
  reducesTo_S1024x64_S_d0_1 := by decide

/-- An extended real whose absolute value is below plus infinity is a real number. -/
theorem real_of_abs {a : EReal} (h : Ideal.cmp .olt (max a (-a)) (Ideal.ofBits .f32 0x7F800000#32) = 1#1) :
    ∃ r : ℝ, a = r := by
  rw [Consts.inf] at h
  induction a with
  | bot => simp [Ideal.cmp] at h
  | coe r => exact ⟨r, rfl⟩
  | top => simp [Ideal.cmp] at h

/-- Where the precondition holds, the entries of both arguments are real numbers. -/
theorem reals [Cert.Pre_finite.Facts] (z : FVec Ideal Pre_finite.S36864x64 .f32) (c : FVec Ideal Pre_finite.S1024x64 .f32)
    (h : Cert.Pre_finite.fn (F := Ideal) z c = fun _ => 1#1) :
    (∀ i, ∃ r : ℝ, z i = r) ∧ ∀ i, ∃ r : ℝ, c i = r := by
  have hj := congrFun h (fun a => a.elim0)
  dsimp only [Cert.Pre_finite.fn] at hj
  obtain ⟨hz, hc⟩ := IntOp.andi_eq_one.mp hj
  refine ⟨fun i => real_of_abs ?_, fun i => real_of_abs ?_⟩
  · exact Host.reduce_andi_eq_one _ _ _ _ _ hz i (funext fun a => a.elim0)
  · exact Host.reduce_andi_eq_one _ _ _ _ _ hc i (funext fun a => a.elim0)

end Cert.Proof.Pre

end
-- ==== Proof.Blocks.lean ====
/- What the body leaves at one point of the grid: the names the generated frame gives, case by case, to what each staging
   buffer and each accumulator holds are opened to the values the body computes from the codebook and the point's block. -/
module

public import proofs.«01_k».proof.Proof.Gen.KernelIdeal.Frame
public import Idealize.ShloMosaic.Lib.Pipeline.ValueKit
public import Idealize.ShloMosaic.Lib.Pipeline.ReadBack

@[expose] public section

noncomputable section

namespace Cert.KernelIdeal.Blocks

open Cert.KernelIdeal Cert.KernelIdeal.Gen Idealize.ShloMosaic Idealize.ShloMosaic.TcCoe
open Idealize.SL.Sem Idealize.ShloMosaic.Tactic

variable {F : FTy → Type} [FloatOps F] [Named F]
variable (m : (ℓ : Loc nD τ sig) → Buf (Elt F) ℓ) (c : Dev nD) (t : Fin cfg0.N)

/-- The quantized block written at a point: the latent block plus the difference to its codes. -/
theorem quantized :
    (outsAt0 m c t.val t.isLt).1 = k0_pay13 (iblk m c 1 t) (iblk m c 0 t) := by
  by_cases h0 : t.val % 6 = 0
  · have h1 : ¬ t.val % 6 = 5 := by omega
    rw [outsAt0_A m c t h0 h1]; frame_out
  · by_cases h1 : t.val % 6 = 5
    · rw [outsAt0_C m c t h0 h1]; frame_out
    · rw [outsAt0_B m c t h0 h1]; frame_out

/-- The block of indices written at a point: the nearest code of each latent vector. -/
theorem indices :
    (outsAt0 m c t.val t.isLt).2.1 = k0_pay1 (k0_pay10 (iblk m c 1 t) (iblk m c 0 t)) := by
  by_cases h0 : t.val % 6 = 0
  · have h1 : ¬ t.val % 6 = 5 := by omega
    rw [outsAt0_A m c t h0 h1]; frame_out
  · by_cases h1 : t.val % 6 = 5
    · rw [outsAt0_C m c t h0 h1]; frame_out
    · rw [outsAt0_B m c t h0 h1]; frame_out

/-- The code counts after the first point: those of its block, over zeros. -/
theorem counts_first (h0 : t.val % 6 = 0) :
    (outsAt0 m c t.val t.isLt).2.2.2.2.1
      = k0_pay3 (k0_pay11 (iblk m c 1 t) (iblk m c 0 t)) k0_pay6 := by
  have h1 : ¬ t.val % 6 = 5 := by omega
  rw [outsAt0_A m c t h0 h1]; frame_out

/-- The code counts after a later point: those of its block, over what the point before left. -/
theorem counts_next (h0 : ¬ t.val % 6 = 0) :
    (outsAt0 m c t.val t.isLt).2.2.2.2.1
      = k0_pay3 (k0_pay11 (iblk m c 1 t) (iblk m c 0 t))
          (outsAt0 m c (t.val - 1) (Nat.lt_of_le_of_lt (Nat.sub_le _ _) t.isLt)).2.2.2.2.1 := by
  by_cases h1 : t.val % 6 = 5
  · rw [outsAt0_C m c t h0 h1]; frame_out; rw [read_unread_whole]
  · rw [outsAt0_B m c t h0 h1]; frame_out; rw [read_unread_whole]

/-- The squared error after the first point: that of its block, over zero. -/
theorem error_first (h0 : t.val % 6 = 0) :
    (outsAt0 m c t.val t.isLt).2.2.2.2.2
      = k0_pay2 (k0_pay9 (iblk m c 0 t)) (k0_pay12 (iblk m c 1 t) (iblk m c 0 t)) k0_pay7 := by
  have h1 : ¬ t.val % 6 = 5 := by omega
  rw [outsAt0_A m c t h0 h1]; frame_out

/-- The squared error after a later point: that of its block, over what the point before left. -/
theorem error_next (h0 : ¬ t.val % 6 = 0) :
    (outsAt0 m c t.val t.isLt).2.2.2.2.2
      = k0_pay2 (k0_pay9 (iblk m c 0 t)) (k0_pay12 (iblk m c 1 t) (iblk m c 0 t))
          (outsAt0 m c (t.val - 1) (Nat.lt_of_le_of_lt (Nat.sub_le _ _) t.isLt)).2.2.2.2.2 := by
  by_cases h1 : t.val % 6 = 5
  · rw [outsAt0_C m c t h0 h1]; frame_out; rw [read_unread_whole]
  · rw [outsAt0_B m c t h0 h1]; frame_out; rw [read_unread_whole]

/-- The loss written at the last point: the scaled squared error the last point leaves. -/
theorem loss_last (h1 : t.val % 6 = 5) :
    (outsAt0 m c t.val t.isLt).2.2.1 = k0_pay4 (outsAt0 m c t.val t.isLt).2.2.2.2.2 := by
  have h0 : ¬ t.val % 6 = 0 := by omega
  rw [error_next m c t h0, outsAt0_C m c t h0 h1]; frame_out; rw [read_unread_whole]

/-- The perplexity written at the last point: that of the code counts the last point leaves. -/
theorem perplexity_last (h1 : t.val % 6 = 5) :
    (outsAt0 m c t.val t.isLt).2.2.2.1 = k0_pay5 (outsAt0 m c t.val t.isLt).2.2.2.2.1 := by
  have h0 : ¬ t.val % 6 = 0 := by omega
  rw [counts_next m c t h0, outsAt0_C m c t h0 h1]; frame_out; rw [read_unread_whole]

end Cert.KernelIdeal.Blocks
-- ==== Proof.First.lean ====
/- The first index at which a table of 1024 extended reals is smallest, and the two ways the programs find it: the kernel
   as the smallest index among those that attain the minimum, the reference by one pass over (value, index) pairs. -/
module

public import proofs.«01_k».proof.Defs
public import Idealize.ShloMosaic.Lib.Claim
public import Idealize.ShloMosaic.PureOps.Ideal.Laws

@[expose] public section

noncomputable section

namespace Cert.Proof

open Idealize.ShloMosaic

/-- `i` is the first index at which `d` is smallest: nothing is smaller, and everything before is larger. -/
def IsFirst (d : Fin 1024 → EReal) (i : Fin 1024) : Prop := (∀ k, d i ≤ d k) ∧ ∀ k, k < i → d i < d k

/-- Every table has such an index. -/
theorem exists_isFirst (d : Fin 1024 → EReal) : ∃ i, IsFirst d i := by
  obtain ⟨m, -, hm⟩ := Finset.exists_min_image Finset.univ d ⟨0, Finset.mem_univ _⟩
  obtain ⟨i, hi, hleast⟩ := Finset.exists_min_image (Finset.univ.filter fun k => d k = d m) id ⟨m, by simp⟩
  have hi : d i = d m := by simpa using hi
  refine ⟨i, fun k => hi ▸ hm k (Finset.mem_univ k), fun k hk => ?_⟩
  refine lt_of_le_of_ne (hi ▸ hm k (Finset.mem_univ k)) fun h => ?_
  exact absurd (hleast k (by simp [← h, hi])) (not_le.mpr hk)

/-- The first index at which the table is smallest. -/
def first (d : Fin 1024 → EReal) : Fin 1024 := Classical.choose (exists_isFirst d)

/-- It is the first index that attains the minimum. -/
theorem first_isFirst (d : Fin 1024 → EReal) : IsFirst d (first d) := Classical.choose_spec (exists_isFirst d)

/-- The minimum of the table is its entry there. -/
theorem fold_min_eq (d : Fin 1024 → EReal) : Finset.univ.fold min ⊤ d = d (first d) := by
  apply le_antisymm
  · exact (Finset.fold_min_le _).mpr (.inr ⟨first d, Finset.mem_univ _, le_rfl⟩)
  · exact (Finset.le_fold_min _).mpr ⟨le_top, fun k _ => (first_isFirst d).1 k⟩

/-- The kernel's way: of the indices that attain the minimum, the smallest; the others count as 1024. -/
theorem masked_min_eq (d : Fin 1024 → EReal) :
    Finset.univ.fold min ⊤ (fun k : Fin 1024 =>
        if d k = Finset.univ.fold min ⊤ d then (((k : ℕ) : ℝ) : EReal) else ((1024 : ℝ) : EReal))
      = (((first d : ℕ) : ℝ) : EReal) := by
  obtain ⟨hle, hlt⟩ := first_isFirst d
  apply le_antisymm
  · refine (Finset.fold_min_le _).mpr (.inr ⟨first d, Finset.mem_univ _, ?_⟩)
    rw [if_pos (fold_min_eq d).symm]
  · refine (Finset.le_fold_min _).mpr ⟨le_top, fun k _ => ?_⟩
    split
    · rename_i h
      rw [fold_min_eq] at h
      have : first d ≤ k := not_lt.mp fun hk => absurd h (ne_of_gt (hlt k hk))
      exact_mod_cast this
    · have := (first d).isLt
      exact_mod_cast this.le

/-- A (value, index) pair comes before another: its value is smaller, or the same with an index no larger. -/
def Before (p q : EReal × BitVec 32) : Prop := p.1 < q.1 ∨ (p.1 = q.1 ∧ p.2.toInt ≤ q.2.toInt)

/-- Coming before is transitive. -/
theorem Before.trans {p q r : EReal × BitVec 32} (h : Before p q) (h' : Before q r) : Before p r := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The reference's body keeps one of its two pairs, one that comes before both. -/
theorem body_keeps (p q : EReal × BitVec 32) :
    (ReferenceIdeal.reducer_argmin_f32_i32 (F := Ideal) p q = p ∨ ReferenceIdeal.reducer_argmin_f32_i32 (F := Ideal) p q = q)
      ∧ Before (ReferenceIdeal.reducer_argmin_f32_i32 (F := Ideal) p q) p
      ∧ Before (ReferenceIdeal.reducer_argmin_f32_i32 (F := Ideal) p q) q := by
  obtain ⟨a, i⟩ := p
  obtain ⟨b, j⟩ := q
  have hself : Ideal.cmp .une a a = 0#1 := by simp [Ideal.cmp]
  simp only [ReferenceIdeal.reducer_argmin_f32_i32, Ideal.cmpf_def, hself]
  rcases lt_trichotomy a b with h | h | h
  · have h1 : Ideal.cmp .olt a b = 1#1 := by simp [Ideal.cmp, h]
    have h2 : Ideal.cmp .oeq a b = 0#1 := by simp [Ideal.cmp, h.ne]
    simp [h1, h2, IntOp.ori, IntOp.andi, Scalar.select, Before, h]
  · subst h
    have h1 : Ideal.cmp .olt a a = 0#1 := by simp [Ideal.cmp]
    have h2 : Ideal.cmp .oeq a a = 1#1 := by simp [Ideal.cmp]
    by_cases hij : i.toInt < j.toInt
    · have h3 : IntOp.cmpi .slt i j = 1#1 := by simp [IntOp.cmpi, BitVec.slt, hij]
      simp [h1, h2, h3, IntOp.ori, IntOp.andi, Scalar.select, Before, hij.le]
    · have h3 : IntOp.cmpi .slt i j = 0#1 := by simp [IntOp.cmpi, BitVec.slt, hij]
      simp [h1, h2, h3, IntOp.ori, IntOp.andi, Scalar.select, Before, not_lt.mp hij]
  · have h1 : Ideal.cmp .olt a b = 0#1 := by simp [Ideal.cmp, not_lt.mpr h.le]
    have h2 : Ideal.cmp .oeq a b = 0#1 := by simp [Ideal.cmp, h.ne']
    simp [h1, h2, IntOp.ori, IntOp.andi, Scalar.select, Before, h]

/-- So one pass over a list of pairs keeps one of them (or the start), one that comes before all of them. -/
theorem pass_keeps (L : List (EReal × BitVec 32)) (p : EReal × BitVec 32) :
    (L.foldl (ReferenceIdeal.reducer_argmin_f32_i32 (F := Ideal)) p = p
        ∨ L.foldl (ReferenceIdeal.reducer_argmin_f32_i32 (F := Ideal)) p ∈ L)
      ∧ Before (L.foldl (ReferenceIdeal.reducer_argmin_f32_i32 (F := Ideal)) p) p
      ∧ ∀ q ∈ L, Before (L.foldl (ReferenceIdeal.reducer_argmin_f32_i32 (F := Ideal)) p) q := by
  induction L generalizing p with
  | nil => exact ⟨.inl rfl, .inr ⟨rfl, le_rfl⟩, fun q hq => absurd hq List.not_mem_nil⟩
  | cons a L ih =>
    obtain ⟨hm, hp, ha⟩ := body_keeps p a
    obtain ⟨hm', hp', hL⟩ := ih (ReferenceIdeal.reducer_argmin_f32_i32 (F := Ideal) p a)
    simp only [List.foldl_cons]
    refine ⟨?_, hp'.trans hp, fun q hq => ?_⟩
    · rcases hm' with h | h
      · rw [h]
        rcases hm with h | h
        · exact .inl h
        · rw [h]; exact .inr List.mem_cons_self
      · exact .inr (List.mem_cons_of_mem _ h)
    · rcases List.mem_cons.mp hq with rfl | hq
      · exact hp'.trans ha
      · exact hL q hq

/-- A code index read as a signed word is itself. -/
theorem toInt_code (k : Fin 1024) : (BitVec.ofNat 32 (k : ℕ)).toInt = ((k : ℕ) : Int) := by
  have := k.isLt
  simp only [BitVec.toInt, BitVec.toNat_ofNat]
  omega

/-- The reference's way: one pass over the pairs of the table's entries and indices, in any order, from plus infinity and
    index zero, ends at the first index at which the table is smallest. -/
theorem pass_eq (d : Fin 1024 → EReal) (L : List (EReal × BitVec 32))
    (hL : ∀ p, p ∈ L ↔ ∃ k : Fin 1024, p = (d k, BitVec.ofNat 32 (k : ℕ))) :
    (L.foldl (ReferenceIdeal.reducer_argmin_f32_i32 (F := Ideal)) (⊤, 0#32)).2 = BitVec.ofNat 32 (first d : ℕ) := by
  obtain ⟨hle, hlt⟩ := first_isFirst d
  obtain ⟨hm, -, hall⟩ := pass_keeps L (⊤, 0#32)
  have hb := hall _ ((hL _).mpr ⟨first d, rfl⟩)
  rcases hm with h | h
  · rw [h] at hb ⊢
    have htop : d (first d) = ⊤ := by
      rcases hb with hb | ⟨hb, -⟩
      · exact absurd hb not_top_lt
      · exact hb.symm
    have : first d = 0 := by
      by_contra hne
      have := hlt 0 (Fin.pos_iff_ne_zero.mpr hne)
      rw [htop] at this
      exact absurd this not_top_lt
    rw [this]; rfl
  · obtain ⟨k, hk⟩ := (hL _).mp h
    rw [hk] at hb ⊢
    have : k = first d := by
      rcases hb with hb | ⟨hb, hi⟩
      · exact absurd hb (not_lt.mpr (hle k))
      · simp only [toInt_code] at hi
        rcases lt_or_eq_of_le (show k ≤ first d by exact_mod_cast hi) with h | h
        · exact absurd hb (ne_of_gt (hlt k h))
        · exact h
    rw [this]

end Cert.Proof

end
-- ==== Proof.Distance.lean ====
/- The squared distance of one latent vector to one code, as the kernel computes it and as the reference does; the two
   agree when every entry is a real number. -/
module

public import Idealize.ShloMosaic.Lib.Claim
public import Idealize.ShloMosaic.PureOps.Ideal

@[expose] public section

noncomputable section

namespace Cert.Proof

/-- The sum of real numbers, as an extended real, is the sum of the extended reals. -/
theorem coe_sum {ι : Type} [Fintype ι] (f : ι → ℝ) : ((∑ i, f i : ℝ) : EReal) = ∑ i, (f i : EReal) :=
  map_sum (⟨⟨(fun r : ℝ => (r : EReal)), EReal.coe_zero⟩, EReal.coe_add⟩ : ℝ →+ EReal) f Finset.univ

/-- The reference's distance of the vector `x` to code `k`: the two square norms, less twice the inner product. -/
def refDist (x : Fin 64 → EReal) (w : Fin 1024 → Fin 64 → EReal) (k : Fin 1024) : EReal :=
  (∑ i, x i * x i + ∑ i, w k i * w k i) - ((2 : ℝ) : EReal) * ∑ i, x i * w k i

/-- The kernel's: the two square norms plus the inner product with minus twice the code. -/
def kerDist (x : Fin 64 → EReal) (w : Fin 1024 → Fin 64 → EReal) (k : Fin 1024) : EReal :=
  (∑ i, x i * x i + ∑ i, w k i * w k i) + ∑ i, ((-2 : ℝ) : EReal) * w k i * x i

/-- On real entries the two distances are equal. -/
theorem kerDist_eq_refDist (x : Fin 64 → EReal) (w : Fin 1024 → Fin 64 → EReal)
    (hx : ∀ i, ∃ r : ℝ, x i = r) (hw : ∀ k i, ∃ r : ℝ, w k i = r) : kerDist x w = refDist x w := by
  choose xr hxr using hx
  choose wr hwr using hw
  funext k
  simp only [kerDist, refDist, hxr, hwr, ← EReal.coe_mul, ← coe_sum, ← EReal.coe_add, ← EReal.coe_sub]
  congr 1
  rw [sub_eq_add_neg, Finset.mul_sum, ← Finset.sum_neg_distrib]
  congr 1
  exact Finset.sum_congr rfl fun i _ => by ring

end Cert.Proof

end
-- ==== Proof.KernelPoint.lean ====
/- What the kernel's body computes at one point, read at an index over the extended reals. -/
module

public import proofs.«01_k».proof.Proof.Gen.KernelIdeal.Skeleton
public import proofs.«01_k».proof.Proof.Consts
public import proofs.«01_k».proof.Proof.First
public import proofs.«01_k».proof.Proof.Distance
public import Idealize.ShloMosaic.Lib.Pointwise

@[expose] public section

noncomputable section

namespace Cert.KernelIdeal.Point

open Cert.KernelIdeal Cert.KernelIdeal.Gen Cert.Proof Idealize.ShloMosaic Idealize.ShloMosaic.TcCoe

variable (w : FVec Ideal S1024x64 .f32) (x : FVec Ideal S64x6144 .f32)

/-- The code nearest to column `n` of a block: the first of those at the smallest distance. -/
def nearest (n : Fin 6144) : Fin 1024 := first (kerDist (fun i => x (ix2 i n)) fun k i => w (ix2 k i))

/-- A code index, as a word read signed, is the index as a real number. -/
theorem code_real (k : Fin 1024) :
    FloatOps.sitofp (F := Ideal) .f32 (BitVec.ofNat 32 (k : ℕ)) = (((k : ℕ) : ℝ) : EReal) := by
  show (((BitVec.ofNat 32 (k : ℕ)).toInt : ℝ) : EReal) = _
  rw [toInt_code]; norm_cast

/-- The row of indices as real numbers holds, per column, its nearest code. -/
theorem nearest_at (n : Fin 6144) :
    k0_pay10 (F := Ideal) w x (ix2 0 n) = (((nearest w x n : ℕ) : ℝ) : EReal) := by
  pointwise [k0_pay10, k0_pay9, k0_pay8]
  simp only [code_real]
  rw [Consts.inf, Consts.neg_two, Consts.codes]
  exact masked_min_eq (kerDist (fun i => x (ix2 i n)) fun k i => w (ix2 k i))

/-- A row of code indices as real numbers, turned to words. -/
theorem word_at (v : FVec Ideal S1x6144 .f32) (a b : Fin 1) (n : Fin 6144) :
    k0_pay1 (F := Ideal) v (ix3 a b n) = Ideal.fptosi 32 (v (ix2 0 n)) := by
  pointwise [k0_pay1]
  rfl

/-- A code index as a real number, turned to a word, is the index. -/
theorem code_word (k : Fin 1024) : Ideal.fptosi 32 (((k : ℕ) : ℝ) : EReal) = BitVec.ofNat 32 (k : ℕ) := by
  have hk := k.isLt
  rw [Ideal.fptosi, Ideal.toIntClamped_coe, if_pos (Nat.cast_nonneg _), Int.floor_natCast]
  have : max (-((2 ^ (32 - 1) : ℕ) : Int)) (min (((2 ^ (32 - 1) : ℕ) : Int) - 1) ((k : ℕ) : Int)) = ((k : ℕ) : Int) := by
    norm_num; omega
  rw [this, BitVec.ofInt_natCast]

/-- The comparison of the code indices with a row of indices as real numbers. -/
theorem compare_at (v : FVec Ideal S1x6144 .f32) (k : Fin 1024) (n : Fin 6144) :
    (truncf .bf16 (sitofp .f32 (extui 32 (cmpf .oeq (broadcastTo S1024x6144 (k0_pay8 (F := Ideal)) broadcasts_S1024x1_S1024x6144)
        (broadcastTo S1024x6144 v broadcasts_S1x6144_S1024x6144)) natLt_1_32)) bitsLt_bf16_f32 : FVec Ideal S1024x6144 .bf16) (ix2 k n)
      = FloatOps.sitofp (F := Ideal) .f32 (BitVec.setWidth 32 (BitVec.ofBool
          (decide (FloatOps.sitofp (F := Ideal) .f32 (BitVec.ofNat 32 (k : ℕ)) = v (ix2 0 n))))) := by
  pointwise [k0_pay8]

/-- The one-hot columns are one at the nearest code and zero elsewhere. -/
theorem hot_at (k : Fin 1024) (n : Fin 6144) :
    k0_pay11 (F := Ideal) w x (ix2 k n) = if k = nearest w x n then (1 : EReal) else 0 := by
  refine (compare_at (k0_pay10 w x) k n).trans ?_
  rw [nearest_at, code_real]
  generalize nearest w x n = m
  show (((BitVec.setWidth 32 (BitVec.ofBool (decide ((((k : ℕ) : ℝ) : EReal) = (((m : ℕ) : ℝ) : EReal))))).toInt : ℝ) : EReal) = _
  by_cases h : k = m
  · subst h; simp
  · have : ¬ (((k : ℕ) : ℝ) : EReal) = (((m : ℕ) : ℝ) : EReal) := by
      intro e; exact h (Fin.ext (by exact_mod_cast e))
    rw [decide_eq_false this, if_neg h]; simp

/-- The codes taken by a block, as columns: the sum over the codes, each counted by its one-hot entry. -/
theorem taken_of (o : FVec Ideal S1024x6144 .bf16) (i : Fin 64) (n : Fin 6144) :
    (matmul dot_S1024x64_S1024x6144_S64x6144_0_0_1_1_n_n none (truncf .bf16 w bitsLt_bf16_f32) o
        (constant S64x6144 .f32 0x00000000#32) : FVec Ideal S64x6144 .f32) (ix2 i n)
      = ∑ k, w (ix2 k i) * o (ix2 k n) := by
  pointwise

/-- The same, of the kernel's one-hot columns. -/
theorem taken_at (i : Fin 64) (n : Fin 6144) :
    k0_pay12 (F := Ideal) w x (ix2 i n) = ∑ k, w (ix2 k i) * (if k = nearest w x n then (1 : EReal) else 0) := by
  refine (taken_of w (k0_pay11 w x) i n).trans ?_
  exact Finset.sum_congr rfl fun k _ => by rw [hot_at]

/-- A block read whole is the block. -/
theorem block_at : k0_pay9 (F := Ideal) x = x := by
  funext j; pointwise [k0_pay9]

/-- The result block: the latent entry plus the difference of the code's entry to it. -/
theorem straight_of (q v : FVec Ideal S64x6144 .f32) (j : S64x6144.Idx) :
    (addf v (subf q v) : FVec Ideal S64x6144 .f32) j = v j + (q j - v j) := rfl

/-- The result block of the kernel, at an entry. -/
theorem straight_at (j : S64x6144.Idx) :
    k0_pay13 (F := Ideal) w x j = x j + (k0_pay12 w x j - x j) := by
  refine (straight_of (k0_pay12 w x) (k0_pay9 x) j).trans ?_
  rw [block_at]

/-- The accumulated squared error: what was there plus the squared differences of the block. -/
theorem error_at (v q : FVec Ideal S64x6144 .f32) (a : FVec Ideal S1x1 .f32) (j : S1x1.Idx) :
    k0_pay2 (F := Ideal) v q a j
      = a j + ∑ i : Fin 64, ∑ n : Fin 6144, (q (ix2 i n) - v (ix2 i n)) * (q (ix2 i n) - v (ix2 i n)) := by
  pointwise [k0_pay2]

/-- The accumulated counts: what was there plus the number of the block's columns of that code. -/
theorem counts_at (o : FVec Ideal S1024x6144 .bf16) (a : FVec Ideal S1024x1 .f32) (k : Fin 1024) (l : Fin 1) :
    k0_pay3 (F := Ideal) o a (ix2 k l) = a (ix2 k l) + ∑ n : Fin 6144, o (ix2 k n) := by
  pointwise [k0_pay3]

/-- The counts start at zero. -/
theorem counts_start (j : S1024x1.Idx) : k0_pay6 (F := Ideal) j = (0 : EReal) := by
  pointwise [k0_pay6]

/-- The squared error starts at zero. -/
theorem error_start (j : S1x1.Idx) : k0_pay7 (F := Ideal) j = (0 : EReal) := by
  pointwise [k0_pay7]

/-- The loss is the squared error times its factor. -/
theorem loss_at (a : FVec Ideal S1x1 .f32) (j : S1x1.Idx) :
    k0_pay4 (F := Ideal) a j = a j * ((5 / 9437184 : ℝ) : EReal) := by
  pointwise [k0_pay4]
  rw [Consts.loss_scale]

/-- The perplexity of the counts. -/
theorem perplexity_at (a : FVec Ideal S1024x1 .f32) (j : S1x1.Idx) :
    k0_pay5 (F := Ideal) a j = Ideal.exp (0 - ∑ k : Fin 1024, a (ix2 k 0) * ((1 / 36864 : ℝ) : EReal)
      * Ideal.log (a (ix2 k 0) * ((1 / 36864 : ℝ) : EReal) + Ideal.ofBits .f32 0x2EDBE6FF#32)) := by
  pointwise [k0_pay5]
  simp only [Consts.inv_rows, Finset.univ_unique, Finset.sum_singleton]

end Cert.KernelIdeal.Point

end
-- ==== Proof.RefValue.lean ====
/- What the reference computes, read at an index. -/
module

public import proofs.«01_k».proof.Proof.RefRun
public import proofs.«01_k».proof.Proof.Consts
public import proofs.«01_k».proof.Proof.First
public import proofs.«01_k».proof.Proof.Distance
public import Idealize.ShloMosaic.Lib.Pointwise

@[expose] public section

noncomputable section

namespace Cert.ReferenceIdeal.Ref

open Cert.ReferenceIdeal Cert.ReferenceIdeal.Facts₀ Cert.Proof Idealize.ShloMosaic

variable (z : FVec Ideal S36864x64 .f32) (c : FVec Ideal S1024x64 .f32)

/-- The codebook as a table of codes. -/
abbrev codes : Fin 1024 → Fin 64 → EReal := fun k i => c (ix2 k i)

/-- The latent vector of row `n`. -/
abbrev latent (n : Fin 36864) : Fin 64 → EReal := fun i => z (ix2 n i)

/-- The code nearest to row `n`: the first of those at the smallest distance. -/
def nearest (n : Fin 36864) : Fin 1024 := first (refDist (latent z n) (codes c))

/-- The distances are `refDist` of the row and the code. -/
theorem dist_at (n : Fin 36864) (k : Fin 1024) : Ref.dist z c (ix2 n k) = refDist (latent z n) (codes c) k := by
  pointwise [Ref.dist]
  rw [Consts.two]; rfl

/-- The pairs the reference's pass goes over for row `n` are those of the row's entries. -/
theorem mem_fiber {a b : ℕ} {α β : Type} (x : (⟨2, ![a, b]⟩ : Shape).Idx → α) (y : (⟨2, ![a, b]⟩ : Shape).Idx → β)
    (h : (⟨2, ![a, b]⟩ : Shape).ReducesTo [1] ⟨1, ![a]⟩) (n : Fin a) (p : α × β) :
    p ∈ Host.argReduceFiber x y h (ix1 n) ↔ ∃ k : Fin b, p = (x (ix2 n k), y (ix2 n k)) := by
  simp only [Host.argReduceFiber, List.mem_map, List.mem_filter, List.mem_finRange, true_and, decide_eq_true_eq]
  constructor
  · rintro ⟨e, he, rfl⟩
    obtain ⟨k, hk⟩ := (Shape.ReducesTo.fiber_r2_a1 _ _ _).mp he
    refine ⟨k, ?_⟩
    rw [← hk]
    rfl
  · rintro ⟨k, rfl⟩
    refine ⟨(⟨2, ![a, b]⟩ : Shape).rowMajor (ix2 n k), ?_, ?_⟩
    · rw [Equiv.symm_apply_apply]
      exact (Shape.ReducesTo.fiber_r2_a1 _ _ _).mpr ⟨k, rfl⟩
    · rw [Equiv.symm_apply_apply]

/-- The index chosen in row `n` of a table with rows of 1024 entries is the first of the row's smallest. -/
theorem argReduce_at {a : ℕ} {u : Shape} (d : FVec Ideal ⟨2, ![a, 1024]⟩ .f32) (y : IVec ⟨2, ![a, 1024]⟩ 32)
    (ix : u.Idx → Ideal .f32) (iy : u.Idx → BitVec 32) (h : (⟨2, ![a, 1024]⟩ : Shape).ReducesTo [1] ⟨1, ![a]⟩) (hu : 0 < u.numel)
    (hx : ix (Shape.Idx.first hu) = (⊤ : EReal)) (hi : iy (Shape.Idx.first hu) = 0#32)
    (hy : ∀ n k, y (ix2 n k) = BitVec.ofNat 32 (k : ℕ)) (n : Fin a) :
    (Host.argReduce (reducer_argmin_f32_i32 (F := Ideal)) d y ix iy h hu (ix1 n)).2
      = BitVec.ofNat 32 (first fun k => d (ix2 n k) : ℕ) := by
  rw [Ideal.argReduce_eq_reduce2, Host.reduce2_eq_foldl_fiber, hx, hi]
  refine pass_eq _ _ fun p => ?_
  rw [mem_fiber]
  simp only [hy]

/-- The reference's indices, as the function of the row that they are. -/
theorem argmin_eq (d : FVec Ideal S36864x1024 .f32) : argmin d = fun j =>
    (Host.argReduce (reducer_argmin_f32_i32 (F := Ideal)) d (iotaInDim S36864x1024 32 1) (constant (F := Ideal) S_ .f32 0x7F800000#32)
      (constantI S_ 32 0#32) reducesTo_S36864x1024_S36864_d1 h_S_ j).2 := rfl

/-- The same of the reference's own table of distances. -/
theorem argmin_at (d : FVec Ideal S36864x1024 .f32) (n : Fin 36864) :
    argmin d (ix1 n) = BitVec.ofNat 32 (first fun k => d (ix2 n k) : ℕ) := by
  have hx : (constant (F := Ideal) S_ .f32 0x7F800000#32) (Shape.Idx.first h_S_) = (⊤ : EReal) := by
    rw [constant_apply]; exact Consts.inf
  have hy : ∀ (n : Fin 36864) (k : Fin 1024), iotaInDim S36864x1024 32 1 (ix2 n k) = BitVec.ofNat 32 (k : ℕ) := by
    intro n k; pointwise
  have h1 : (constantI S_ 32 0#32) (Shape.Idx.first h_S_) = 0#32 := rfl
  exact (congrFun (argmin_eq d) (ix1 n)).trans (argReduce_at (a := 36864) (u := S_) d (iotaInDim S36864x1024 32 1)
    (constant (F := Ideal) S_ .f32 0x7F800000#32) (constantI S_ 32 0#32) reducesTo_S36864x1024_S36864_d1 h_S_ hx h1 hy n)

/-- The indices are those of the nearest codes. -/
theorem idx_at (n : Fin 36864) : idx z c (ix1 n) = BitVec.ofNat 32 (nearest z c n : ℕ) := by
  unfold idx nearest
  rw [argmin_at, show (fun k => Ref.dist z c (ix2 n k)) = _ from funext (dist_at z c n)]

/-- The comparison of two code indices as words, read as a number, is one if they are the same code and zero otherwise. -/
theorem equal_word (k m : Fin 1024) :
    FloatOps.uitofp (F := Ideal) .f32 (IntOp.cmpi .eq (BitVec.ofNat 32 (m : ℕ)) (BitVec.ofNat 32 (k : ℕ)))
      = if k = m then (1 : EReal) else 0 := by
  have hk := k.isLt
  have hm := m.isLt
  have he : (BitVec.ofNat 32 (m : ℕ) = BitVec.ofNat 32 (k : ℕ)) ↔ k = m := by
    rw [Fin.ext_iff, ← BitVec.toNat_inj, BitVec.toNat_ofNat, BitVec.toNat_ofNat]
    omega
  show (((IntOp.cmpi .eq (BitVec.ofNat 32 (m : ℕ)) (BitVec.ofNat 32 (k : ℕ))).toNat : ℝ) : EReal) = _
  by_cases hc : k = m
  · rw [if_pos hc, IntOp.cmpi, he.mpr hc]
    simp
  · rw [if_neg hc]
    have : ¬ BitVec.ofNat 32 (m : ℕ) = BitVec.ofNat 32 (k : ℕ) := mt he.mp hc
    simp [IntOp.cmpi, this]

/-- A one-hot row compares the row's index with each code's. -/
theorem oneHot_at (i : IVec S36864 32) (n : Fin 36864) (k : Fin 1024) :
    oneHot (F := Ideal) i (ix2 n k) = FloatOps.uitofp (F := Ideal) .f32 (IntOp.cmpi .eq (i (ix1 n)) (BitVec.ofNat 32 (k : ℕ))) := by
  pointwise [oneHot]

/-- The one-hot rows are one at the nearest code and zero elsewhere. -/
theorem hot_at (n : Fin 36864) (k : Fin 1024) : hot z c (ix2 n k) = if k = nearest z c n then (1 : EReal) else 0 := by
  unfold hot
  rw [oneHot_at, idx_at]
  exact equal_word k _

/-- The quantized rows: the sum over the codes, each counted if it is the nearest. -/
theorem rows_at (n : Fin 36864) (i : Fin 64) :
    Ref.rows z c (ix2 n i) = ∑ k, (if k = nearest z c n then (1 : EReal) else 0) * c (ix2 k i) := by
  unfold Ref.rows
  have h := hot_at z c n
  generalize hot z c = o at h ⊢
  pointwise [quant]
  exact Finset.sum_congr rfl fun k _ => by rw [h]

/-- The mean square: the sum of the squared differences over the number of entries. -/
theorem mse_at (q : FVec Ideal S36864x64 .f32) (j : S_.Idx) :
    mse q z j = Ideal.div (∑ n : Fin 36864, ∑ i : Fin 64, (q (ix2 n i) - z (ix2 n i)) * (q (ix2 n i) - z (ix2 n i)))
      ((2359296 : ℝ) : EReal) := by
  pointwise [mse]
  rw [Consts.entries]

/-- The loss: the mean square plus a quarter of it. -/
theorem loss_at (q : FVec Ideal S36864x64 .f32) (j : S_.Idx) :
    loss q z j = mse q z j + ((1 / 4 : ℝ) : EReal) * mse q z j := by
  pointwise [loss]
  rw [Consts.quarter]

/-- The straight-through result: the entry plus the difference of the quantized entry to it. -/
theorem straight_at (q : FVec Ideal S36864x64 .f32) (j : S36864x64.Idx) : straight q z j = z j + (q j - z j) := rfl

/-- The share of a code: the number of rows that take it over the number of rows. -/
theorem share_at (o : FVec Ideal S36864x1024 .f32) (k : Fin 1024) :
    share o (ix1 k) = Ideal.div (∑ n : Fin 36864, o (ix2 n k)) ((36864 : ℝ) : EReal) := by
  pointwise [share]
  rw [Consts.rows]

/-- The perplexity of the shares. -/
theorem perplexity_at (e : FVec Ideal S1024 .f32) (j : S_.Idx) :
    perplexity e j = Ideal.exp (-∑ k : Fin 1024, e (ix1 k) * Ideal.log (e (ix1 k) + Ideal.ofBits .f32 0x2EDBE6FF#32)) := by
  pointwise [perplexity]

/-- The column of indices. -/
theorem column_at (i : IVec S36864 32) (n : Fin 36864) (l : Fin 1) : column i (ix2 n l) = i (ix1 n) := by
  pointwise [column]

end Cert.ReferenceIdeal.Ref

end
-- ==== Proof.Inputs.lean ====
/- The blocks the body reads at a point, as parts of the two arguments, and the nearest codes of a block as those of the
   rows of the latent array it holds. -/
module

public import proofs.«01_k».proof.Proof.Blocks
public import proofs.«01_k».proof.Proof.KernelPoint
public import proofs.«01_k».proof.Proof.RefValue

@[expose] public section

noncomputable section

namespace Cert.KernelIdeal.Inputs

open Cert.KernelIdeal Cert.KernelIdeal.Gen Cert.Proof Idealize.ShloMosaic Idealize.ShloMosaic.TcCoe
open Idealize.SL.Sem Idealize.ShloMosaic.Tactic

variable (m : (ℓ : Loc nD τ sig) → Buf (Elt Ideal) ℓ) (c : Dev nD)

/-- The latent array of core `c`. -/
abbrev lat : FVec Ideal S36864x64 .f32 := m ((c : Thread nD τ).loc main_arg0)

/-- The codebook of core `c`. -/
abbrev book : FVec Ideal S1024x64 .f32 := m ((c : Thread nD τ).loc main_arg1)

/-- The row of the latent array that column `y` of point `t`'s block holds. -/
def pos (t : Fin cfg0.N) (y : Fin 6144) : Fin 36864 :=
  ⟨t.val * 6144 + y.val, by have := lt_of_lt_of_eq t.isLt (show cfg0.N = 6 from N_0); have := y.isLt; omega⟩

/-- The latent blocks follow each other along the rows. -/
theorem index_lat : ∀ t : Fin cfg0.N, win0_0.index t = ![0, t.val] := (by decide +kernel : ∀ t : Fin grid0.N, _)
/-- The codebook's only block is at its start. -/
theorem index_book : ∀ t : Fin cfg0.N, win0_1.index t = ![0, 0] := (by decide +kernel : ∀ t : Fin grid0.N, _)

/-- The region finds the latent array transposed. -/
theorem entry_lat : V m c main_v0 = transpose S64x36864 [1, 0] (lat m c) transposes_S36864x64_S64x36864_1_0 := by
  show StableHlo.after hostOps0 (fun b => m (c, b)) (Proc.devRef .tc main_v0) = _
  after_results
/-- The region finds the codebook as it was given. -/
theorem entry_book : V m c main_arg1 = book m c := by
  show StableHlo.after hostOps0 (fun b => m (c, b)) (Proc.devRef .tc main_arg1) = _
  after_results

/-- The latent block of a point, at an entry. -/
theorem lat_at (t : Fin cfg0.N) (i : Fin 64) (y : Fin 6144) :
    (iblk m c 0 t : FVec Ideal S64x6144 .f32) (ix2 i y) = lat m c (ix2 (pos t y) i) := by
  blk_simp [iblk]
  rw [entry_lat]
  have e : ((win0_0.blk t).view.emb (ix2 i y) : S64x36864.Idx) = ix2 i (pos t y) := by
    blk_ext [index_lat t, pos]
  refine (congrArg _ e).trans ?_
  pointwise

/-- The codebook's block of a point is the codebook. -/
theorem book_at (t : Fin cfg0.N) : (iblk m c 1 t : FVec Ideal S1024x64 .f32) = book m c := by
  funext j
  blk_simp [iblk]
  rw [entry_book]
  refine congrArg (book m c) ?_
  blk_ext [index_book t]

/-- The nearest code of a column of a block is the nearest code of the row it holds. -/
theorem nearest_eq (hz : ∀ j, ∃ r : ℝ, lat m c j = r) (hc : ∀ j, ∃ r : ℝ, book m c j = r) (t : Fin cfg0.N)
    (y : Fin 6144) :
    Point.nearest (iblk m c 1 t) (iblk m c 0 t) y = Cert.ReferenceIdeal.Ref.nearest (lat m c) (book m c) (pos t y) := by
  rw [book_at]
  refine congrArg first ?_
  have hl : (fun i => (iblk m c 0 t : FVec Ideal S64x6144 .f32) (ix2 i y)) = fun i => lat m c (ix2 (pos t y) i) :=
    funext fun i => lat_at m c t i y
  rw [hl]
  exact kerDist_eq_refDist _ _ (fun i => hz _) fun k i => hc _

end Cert.KernelIdeal.Inputs

end
-- ==== Proof.Arrays.lean ====
/- What the launch leaves in its four result arrays, block by block: each entry is the reference's. -/
module

public import proofs.«01_k».proof.Proof.Inputs

@[expose] public section

noncomputable section

namespace Cert.KernelIdeal.Arrays

open Cert.KernelIdeal Cert.KernelIdeal.Gen Cert.KernelIdeal.Inputs Cert.Proof Idealize.ShloMosaic
open Idealize.ShloMosaic.TcCoe Idealize.SL.Sem Idealize.ShloMosaic.Tactic

variable (m : (ℓ : Loc nD τ sig) → Buf (Elt Ideal) ℓ) (c : Dev nD)
variable (hz : ∀ j, ∃ r : ℝ, lat m c j = r) (hc : ∀ j, ∃ r : ℝ, book m c j = r)

include hz hc

/-- The code taken for a column of a block is the reference's row. -/
theorem taken_eq (t : Fin cfg0.N) (i : Fin 64) (y : Fin 6144) :
    k0_pay12 (iblk m c 1 t) (iblk m c 0 t) (ix2 i y)
      = Cert.ReferenceIdeal.Ref.rows (lat m c) (book m c) (ix2 (pos t y) i) := by
  rw [Point.taken_at, Cert.ReferenceIdeal.Ref.rows_at, nearest_eq m c hz hc, book_at]
  exact Finset.sum_congr rfl fun k _ => mul_comm _ _

/-- The block of quantized rows, at an entry. -/
theorem straight_eq (t : Fin cfg0.N) (i : Fin 64) (y : Fin 6144) :
    k0_pay13 (iblk m c 1 t) (iblk m c 0 t) (ix2 i y)
      = Cert.ReferenceIdeal.Ref.straight (Cert.ReferenceIdeal.Ref.rows (lat m c) (book m c)) (lat m c)
          (ix2 (pos t y) i) := by
  rw [Point.straight_at, Cert.ReferenceIdeal.Ref.straight_at, taken_eq m c hz hc, lat_at]

/-- The block of indices, at an entry. -/
theorem word_eq (t : Fin cfg0.N) (a b : Fin 1) (y : Fin 6144) :
    k0_pay1 (k0_pay10 (iblk m c 1 t) (iblk m c 0 t)) (ix3 a b y)
      = Cert.ReferenceIdeal.Ref.idx (lat m c) (book m c) (ix1 (pos t y)) := by
  rw [Point.word_at, Point.nearest_at, nearest_eq m c hz hc, Cert.ReferenceIdeal.Ref.idx_at]
  exact Point.code_word _

/-- The block's marks of the code taken, at an entry. -/
theorem hot_eq (t : Fin cfg0.N) (k : Fin 1024) (y : Fin 6144) :
    k0_pay11 (iblk m c 1 t) (iblk m c 0 t) (ix2 k y)
      = Cert.ReferenceIdeal.Ref.hot (lat m c) (book m c) (ix2 (pos t y) k) := by
  rw [Point.hot_at, Cert.ReferenceIdeal.Ref.hot_at, nearest_eq m c hz hc]

/-- The number of rows that take a code, after the last point: over all the rows of the latent array. -/
theorem counts_eq (t : Fin cfg0.N) (ht : t.val + 1 = cfg0.N) (k : Fin 1024) :
    (outsAt0 m c t.val t.isLt).2.2.2.2.1 (ix2 k 0)
      = ∑ n : Fin 36864, Cert.ReferenceIdeal.Ref.hot (lat m c) (book m c) (ix2 n k) := by
  have h := Pipeline.eq_sum_fin_of_reset_step_last (M := EReal) (N := cfg0.N)
    (fun n hn => (outsAt0 m c n hn).2.2.2.2.1 (ix2 k 0)) 6 0
    (fun t => ∑ y : Fin 6144, Cert.ReferenceIdeal.Ref.hot (lat m c) (book m c) (ix2 (pos t y) k))
    (fun t h0 => by
      rw [Blocks.counts_first m c t h0, Point.counts_at, Point.counts_start]
      exact congrArg _ (Finset.sum_congr rfl fun y _ => hot_eq m c hz hc t k y))
    (fun t h0 => by
      rw [Blocks.counts_next m c t h0, Point.counts_at]
      exact congrArg _ (Finset.sum_congr rfl fun y _ => hot_eq m c hz hc t k y))
    (le_of_eq N_0) t ht
  refine h.trans ((zero_add _).trans ?_)
  exact Fin.sum_mul_add_fin cfg0.N 6144 (fun n => Cert.ReferenceIdeal.Ref.hot (lat m c) (book m c) (ix2 n k))

/-- The squared error after the last point: over all the entries of the latent array. -/
theorem error_eq (t : Fin cfg0.N) (ht : t.val + 1 = cfg0.N) (j : S1x1.Idx) :
    (outsAt0 m c t.val t.isLt).2.2.2.2.2 j
      = ∑ n : Fin 36864, ∑ i : Fin 64,
          (Cert.ReferenceIdeal.Ref.rows (lat m c) (book m c) (ix2 n i) - lat m c (ix2 n i))
            * (Cert.ReferenceIdeal.Ref.rows (lat m c) (book m c) (ix2 n i) - lat m c (ix2 n i)) := by
  have step : ∀ t : Fin cfg0.N,
      (∑ i : Fin 64, ∑ y : Fin 6144,
        (k0_pay12 (iblk m c 1 t) (iblk m c 0 t) (ix2 i y) - k0_pay9 (iblk m c 0 t) (ix2 i y))
          * (k0_pay12 (iblk m c 1 t) (iblk m c 0 t) (ix2 i y) - k0_pay9 (iblk m c 0 t) (ix2 i y)) : EReal)
      = ∑ y : Fin 6144, ∑ i : Fin 64,
          (Cert.ReferenceIdeal.Ref.rows (lat m c) (book m c) (ix2 (pos t y) i) - lat m c (ix2 (pos t y) i))
            * (Cert.ReferenceIdeal.Ref.rows (lat m c) (book m c) (ix2 (pos t y) i) - lat m c (ix2 (pos t y) i)) := by
    intro t
    rw [Finset.sum_comm]
    refine Finset.sum_congr rfl fun y _ => Finset.sum_congr rfl fun i _ => ?_
    rw [Point.block_at, taken_eq m c hz hc, lat_at]
  have h := Pipeline.eq_sum_fin_of_reset_step_last (M := EReal) (N := cfg0.N)
    (fun n hn => (outsAt0 m c n hn).2.2.2.2.2 j) 6 0
    (fun t => ∑ y : Fin 6144, ∑ i : Fin 64,
          (Cert.ReferenceIdeal.Ref.rows (lat m c) (book m c) (ix2 (pos t y) i) - lat m c (ix2 (pos t y) i))
            * (Cert.ReferenceIdeal.Ref.rows (lat m c) (book m c) (ix2 (pos t y) i) - lat m c (ix2 (pos t y) i)))
    (fun t h0 => by
      rw [Blocks.error_first m c t h0, Point.error_at, Point.error_start]
      exact congrArg _ (step t))
    (fun t h0 => by
      rw [Blocks.error_next m c t h0, Point.error_at]
      exact congrArg _ (step t))
    (le_of_eq N_0) t ht
  refine h.trans ((zero_add _).trans ?_)
  exact Fin.sum_mul_add_fin cfg0.N 6144 (fun n => ∑ i : Fin 64,
          (Cert.ReferenceIdeal.Ref.rows (lat m c) (book m c) (ix2 n i) - lat m c (ix2 n i))
            * (Cert.ReferenceIdeal.Ref.rows (lat m c) (book m c) (ix2 n i) - lat m c (ix2 n i)))

omit hz hc in
/-- One scaling by five quarters of the mean's factor is the mean and a quarter of the mean. -/
theorem scale_eq (x : EReal) :
    x * ((5 / 9437184 : ℝ) : EReal)
      = Ideal.div x ((2359296 : ℝ) : EReal) + ((1 / 4 : ℝ) : EReal) * Ideal.div x ((2359296 : ℝ) : EReal) := by
  rw [Ideal.div_coe (by norm_num)]
  induction x with
  | bot =>
    rw [EReal.bot_mul_coe_of_pos (by norm_num), EReal.bot_mul_coe_of_pos (by norm_num), EReal.bot_add]
  | top =>
    rw [EReal.top_mul_coe_of_pos (by norm_num), EReal.top_mul_coe_of_pos (by norm_num),
      EReal.coe_mul_top_of_pos (by norm_num), EReal.top_add_top]
  | coe r =>
    norm_cast
    ring

/-- The loss the last point writes. -/
theorem loss_eq (t : Fin cfg0.N) (ht : t.val + 1 = cfg0.N) (j : S1x1.Idx) (j' : S_.Idx) :
    (outsAt0 m c t.val t.isLt).2.2.1 j
      = Cert.ReferenceIdeal.Ref.loss (Cert.ReferenceIdeal.Ref.rows (lat m c) (book m c)) (lat m c) j' := by
  have h5 : t.val % 6 = 5 := by have := N_0; change grid0.N = 6 at this; change t.val + 1 = grid0.N at ht; omega
  rw [Blocks.loss_last m c t h5, Point.loss_at, error_eq m c hz hc t ht, Cert.ReferenceIdeal.Ref.loss_at,
    Cert.ReferenceIdeal.Ref.mse_at]
  exact scale_eq _

/-- The perplexity the last point writes. -/
theorem perplexity_eq (t : Fin cfg0.N) (ht : t.val + 1 = cfg0.N) (j : S1x1.Idx) (j' : S_.Idx) :
    (outsAt0 m c t.val t.isLt).2.2.2.1 j
      = Cert.ReferenceIdeal.Ref.perplexity
          (Cert.ReferenceIdeal.Ref.share (Cert.ReferenceIdeal.Ref.hot (lat m c) (book m c))) j' := by
  have h5 : t.val % 6 = 5 := by have := N_0; change grid0.N = 6 at this; change t.val + 1 = grid0.N at ht; omega
  rw [Blocks.perplexity_last m c t h5, Point.perplexity_at, Cert.ReferenceIdeal.Ref.perplexity_at, zero_sub]
  refine congrArg (fun s => Ideal.exp (-s)) (Finset.sum_congr rfl fun k _ => ?_)
  rw [Cert.ReferenceIdeal.Ref.share_at, Ideal.div_coe (by norm_num), counts_eq m c hz hc t ht]

omit hz hc in
/-- The blocks of quantized rows follow each other along the columns of the transposed array. -/
theorem index_quantized : ∀ t : Fin cfg0.N, win0_2.index t = ![0, t.val] := (by decide +kernel : ∀ t : Fin grid0.N, _)
omit hz hc in
/-- The blocks of index words follow each other along the first axis. -/
theorem index_words : ∀ t : Fin cfg0.N, win0_3.index t = ![t.val, 0, 0] := (by decide +kernel : ∀ t : Fin grid0.N, _)

/-- The transposed array of quantized rows after the launch. -/
theorem final_quantized :
    (dats m 0 c).arrAt 2 cfg0.N = fun j : S64x36864.Idx =>
      Cert.ReferenceIdeal.Ref.straight (Cert.ReferenceIdeal.Ref.rows (lat m c) (book m c)) (lat m c) (ix2 (j 1) (j 0)) := by
  refine (dats m 0 c).arrAt_eq_of_covers 2 _ (by decide +kernel) fun t hf y => ?_
  blk_simp
  rw [after0_2, Blocks.quantized]
  obtain ⟨i, l, rfl⟩ : ∃ (i : Fin 64) (l : Fin 6144), y = ix2 i l := ⟨y 0, y 1, by funext a; fin_cases a <;> rfl⟩
  refine (straight_eq m c hz hc t i l).trans ?_
  refine congrArg _ ?_
  blk_ext [index_quantized t, pos]

/-- The array of index words after the launch. -/
theorem final_words :
    (dats m 0 c).arrAt 3 cfg0.N = fun j : S6x1x6144.Idx =>
      Cert.ReferenceIdeal.Ref.idx (lat m c) (book m c) (ix1 (pos (j 0) (j 2))) := by
  refine (dats m 0 c).arrAt_eq_of_covers 3 _ (by decide +kernel) fun t hf y => ?_
  blk_simp
  rw [after0_3, Blocks.indices]
  obtain ⟨a, b, l, rfl⟩ : ∃ (a b : Fin 1) (l : Fin 6144), y = ix3 a b l :=
    ⟨y 0, y 1, y 2, by funext a; fin_cases a <;> rfl⟩
  refine (word_eq m c hz hc t a b l).trans ?_
  refine congrArg _ ?_
  blk_ext [index_words t, pos]

/-- The loss after the launch. -/
theorem final_loss (j : S_.Idx) :
    (dats m 0 c).arrAt 4 cfg0.N = fun _ : S1x1.Idx =>
      Cert.ReferenceIdeal.Ref.loss (Cert.ReferenceIdeal.Ref.rows (lat m c) (book m c)) (lat m c) j := by
  refine (dats m 0 c).arrAt_eq_of_covers 4 _ (by decide +kernel) fun t hf y => ?_
  blk_simp
  rw [after0_4]
  have h5 := (flush0_4 t).mp hf
  exact loss_eq m c hz hc t (by have := N_0; have := t.isLt; change t.val < grid0.N at this; change t.val + 1 = grid0.N; omega) _ _

/-- The perplexity after the launch. -/
theorem final_perplexity (j : S_.Idx) :
    (dats m 0 c).arrAt 5 cfg0.N = fun _ : S1x1.Idx =>
      Cert.ReferenceIdeal.Ref.perplexity
        (Cert.ReferenceIdeal.Ref.share (Cert.ReferenceIdeal.Ref.hot (lat m c) (book m c))) j := by
  refine (dats m 0 c).arrAt_eq_of_covers 5 _ (by decide +kernel) fun t hf y => ?_
  blk_simp
  rw [after0_5]
  have h5 := (flush0_5 t).mp hf
  exact perplexity_eq m c hz hc t (by have := N_0; have := t.isLt; change t.val < grid0.N at this; change t.val + 1 = grid0.N; omega) _ _

end Cert.KernelIdeal.Arrays

end
-- ==== Proof.KernelRun.lean ====
/- The run of the kernel: what its four results hold, in terms of the arrays the launch leaves. -/
module

public import proofs.«01_k».proof.Proof.Inputs

@[expose] public section

noncomputable section

namespace Cert.KernelIdeal.Run

open Cert.KernelIdeal Cert.KernelIdeal.Gen Idealize.ShloMosaic Idealize.ShloMosaic.TcCoe
open Idealize.SL.Sem Idealize.ShloMosaic.Tactic

variable (m : (ℓ : Loc nD τ sig) → Buf (Elt Ideal) ℓ) (ρ : Dev nD → PrngReg)

/-- What the lines after the region read of an array of the launch. -/
theorem array_read (c : Dev nD) (w : Fin cfg0.W) :
    Pipeline.withArrays cfg0.spec c (V0 m c) (fun w => (dats m 0 c).arrAt w cfg0.N)
        (Proc.devRef .tc (Pipeline.arrRef cfg0.spec w)) = (dats m 0 c).arrAt w cfg0.N :=
  Pipeline.withArrays_arr cfg0.spec (by decide) c _ _ w

/-- The quantized rows are the launch's transposed array, transposed back. -/
theorem quantized_tail (c : Dev nD) : Pipeline.afterTail₀ cfgs (dats m) 0 (V0 m) [hostOps1] c main_v4
    = transpose S36864x64 [1, 0] ((dats m 0 c).arrAt 2 cfg0.N : FVec Ideal S64x36864 .f32) transposes_S64x36864_S36864x64_1_0 := by
  show StableHlo.after hostOps1 _ (Proc.devRef .tc main_v4) = _
  have e := array_read m c 2
  generalize Pipeline.withArrays _ c (V0 m c) _ = W at e ⊢
  after_results
  rw [← e]

/-- The loss is the launch's one entry as a scalar. -/
theorem loss_tail (c : Dev nD) : Pipeline.afterTail₀ cfgs (dats m) 0 (V0 m) [hostOps1] c main_v5
    = shapeCast S_ ((dats m 0 c).arrAt 4 cfg0.N : FVec Ideal S1x1 .f32) shapeCasts_S1x1_S_ := by
  show StableHlo.after hostOps1 _ (Proc.devRef .tc main_v5) = _
  have e := array_read m c 4
  generalize Pipeline.withArrays _ c (V0 m c) _ = W at e ⊢
  after_results
  rw [← e]
  rfl

/-- The indices are the launch's blocks of words, row by row, as a column. -/
theorem words_tail (c : Dev nD) : Pipeline.afterTail₀ cfgs (dats m) 0 (V0 m) [hostOps1] c main_v3
    = broadcastInDim S36864x1 ![0] bcast_S36864_S36864x1_0
        (shapeCast S36864 ((dats m 0 c).arrAt 3 cfg0.N : IVec S6x1x6144 32) shapeCasts_S6x1x6144_S36864) := by
  show StableHlo.after hostOps1 _ (Proc.devRef .tc main_v3) = _
  have e := array_read m c 3
  generalize Pipeline.withArrays _ c (V0 m c) _ = W at e ⊢
  after_results
  rw [← e]
  rfl

/-- The perplexity is the launch's one entry as a scalar. -/
theorem perplexity_tail (c : Dev nD) : Pipeline.afterTail₀ cfgs (dats m) 0 (V0 m) [hostOps1] c main_v6
    = shapeCast S_ ((dats m 0 c).arrAt 5 cfg0.N : FVec Ideal S1x1 .f32) shapeCasts_S1x1_S_ := by
  show StableHlo.after hostOps1 _ (Proc.devRef .tc main_v6) = _
  have e := array_read m c 5
  generalize Pipeline.withArrays _ c (V0 m c) _ = W at e ⊢
  after_results
  rw [← e]
  rfl

/-- The results are the arrays of the launch, transposed or reshaped; the arguments are unchanged. -/
theorem run : θ_run (defs (F := Ideal)) (onTc (τ := τ) (main (F := Ideal))) ⟨m, fun _ => 0, ρ⟩ (fun r => ∀ c : Dev nD,
      r.2.mem ((c.tc : Thread nD τ).loc main_v4)
        = transpose S36864x64 [1, 0] ((dats m 0 c).arrAt 2 cfg0.N : FVec Ideal S64x36864 .f32) transposes_S64x36864_S36864x64_1_0
      ∧ r.2.mem ((c.tc : Thread nD τ).loc main_v5)
        = shapeCast S_ ((dats m 0 c).arrAt 4 cfg0.N : FVec Ideal S1x1 .f32) shapeCasts_S1x1_S_
      ∧ r.2.mem ((c.tc : Thread nD τ).loc main_v3)
        = broadcastInDim S36864x1 ![0] bcast_S36864_S36864x1_0
            (shapeCast S36864 ((dats m 0 c).arrAt 3 cfg0.N : IVec S6x1x6144 32) shapeCasts_S6x1x6144_S36864)
      ∧ r.2.mem ((c.tc : Thread nD τ).loc main_v6)
        = shapeCast S_ ((dats m 0 c).arrAt 5 cfg0.N : FVec Ideal S1x1 .f32) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  refine ⟨?_, ?_, ?_, ?_, (h.2 c).1, (h.2 c).2⟩
  · refine ((h.1 c).2 main_v4 (by decide)).trans (quantized_tail m c)
  · refine ((h.1 c).2 main_v5 (by decide)).trans (loss_tail m c)
  · refine ((h.1 c).2 main_v3 (by decide)).trans (words_tail m c)
  · refine ((h.1 c).2 main_v6 (by decide)).trans (perplexity_tail m c)

end Cert.KernelIdeal.Run

end
-- ==== Proof.Results.lean ====
/- The equation between the two programs: the kernel's four results, once the launch's arrays are read through the lines
   that follow it, are the reference's four results. -/
module

public import proofs.«01_k».proof.Proof.Arrays
public import proofs.«01_k».proof.Proof.KernelRun

@[expose] public section

noncomputable section

namespace Cert.KernelIdeal.Results

open Cert.KernelIdeal Cert.KernelIdeal.Gen Cert.KernelIdeal.Inputs Cert.Proof Idealize.ShloMosaic
open Idealize.ShloMosaic.TcCoe Idealize.SL.Sem Idealize.ShloMosaic.Tactic

/-- An array transposed twice, at an entry. -/
theorem transposed (f : FVec Ideal S36864x64 .f32) :
    transpose S36864x64 [1, 0] (fun j : S64x36864.Idx => f (ix2 (j 1) (j 0))) transposes_S64x36864_S36864x64_1_0 = f := by
  funext j
  obtain ⟨n, i, rfl⟩ : ∃ (n : Fin 36864) (i : Fin 64), j = ix2 n i := ⟨j 0, j 1, by funext a; fin_cases a <;> rfl⟩
  pointwise

/-- A one-entry array as a scalar. -/
theorem scalar (f : FVec Ideal S_ .f32) (v : FVec Ideal S1x1 .f32) (h : ∀ j i, v j = f i) :
    shapeCast S_ v shapeCasts_S1x1_S_ = f := by
  funext i
  exact h _ i

/-- The blocks of words, one after the other, as a column. -/
theorem stacked (f : IVec S36864 32) (v : IVec S6x1x6144 32) (h : ∀ (t : Fin cfg0.N) (y : Fin 6144), v (ix3 t 0 y) = f (ix1 (pos t y))) :
    broadcastInDim S36864x1 ![0] bcast_S36864_S36864x1_0 (shapeCast S36864 v shapeCasts_S6x1x6144_S36864)
      = Cert.ReferenceIdeal.Ref.column f := by
  funext j
  obtain ⟨n, l, rfl⟩ : ∃ (n : Fin 36864) (l : Fin 1), j = ix2 n l := ⟨j 0, j 1, by funext a; fin_cases a <;> rfl⟩
  rw [Cert.ReferenceIdeal.Ref.column_at]
  pointwise
  refine (h _ _).trans (congrArg f ?_)
  refine congrArg ix1 (Fin.ext ?_)
  exact Nat.div_add_mod' _ _

variable (m : (ℓ : Loc nD τ sig) → Buf (Elt Ideal) ℓ) (ρ : Dev nD → PrngReg)

/-- The run of the kernel on finite arguments: its results are the reference's stages of its arguments. -/
theorem run (hz : ∀ c j, ∃ r : ℝ, lat m c j = r) (hc : ∀ c j, ∃ r : ℝ, book m c j = r) :
    θ_run (defs (F := Ideal)) (onTc (τ := τ) (main (F := Ideal))) ⟨m, fun _ => 0, ρ⟩ (fun r => ∀ c : Dev nD,
      r.2.mem ((c.tc : Thread nD τ).loc main_v4)
        = Cert.ReferenceIdeal.Ref.straight (Cert.ReferenceIdeal.Ref.rows (lat m c) (book m c)) (lat m c)
      ∧ r.2.mem ((c.tc : Thread nD τ).loc main_v5)
        = Cert.ReferenceIdeal.Ref.loss (Cert.ReferenceIdeal.Ref.rows (lat m c) (book m c)) (lat m c)
      ∧ r.2.mem ((c.tc : Thread nD τ).loc main_v3)
        = Cert.ReferenceIdeal.Ref.column (Cert.ReferenceIdeal.Ref.idx (lat m c) (book m c))
      ∧ r.2.mem ((c.tc : Thread nD τ).loc main_v6)
        = Cert.ReferenceIdeal.Ref.perplexity
            (Cert.ReferenceIdeal.Ref.share (Cert.ReferenceIdeal.Ref.hot (lat m c) (book m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (Run.run m ρ)
  obtain ⟨h0, h1, h2, h3, h4, h5⟩ := h c
  refine ⟨h0.trans ?_, h1.trans ?_, h2.trans ?_, h3.trans ?_, h4, h5⟩
  · rw [Arrays.final_quantized m c (hz c) (hc c)]
    exact transposed _
  · exact scalar _ _ fun j i => congrFun (Arrays.final_loss m c (hz c) (hc c) i) j
  · exact stacked _ _ fun t y => congrFun (Arrays.final_words m c (hz c) (hc c)) (ix3 t 0 y)
  · exact scalar _ _ fun j i => congrFun (Arrays.final_perplexity m c (hz c) (hc c) i) j

end Cert.KernelIdeal.Results

end
-- ==== Proof.lean ====
/- The proof of the certificate's claim, assembled from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Names
public import proofs.«01_k».proof.Proof.Frames
public import proofs.«01_k».proof.Proof.Pre
public import proofs.«01_k».proof.Proof.RefRun
public import proofs.«01_k».proof.Proof.Results

@[expose] public section

noncomputable section

namespace Cert.Proof

open Idealize.ShloMosaic Idealize.SL.Sem

/-- On finite arguments the idealized kernel and the reference end with the same four results. -/
theorem algebraic : Cert.algebraic_KernelIdeal_ReferenceIdeal_pre_finite (hKernelIdeal := Cert.KernelIdeal.Gen.facts)
    (hReferenceIdeal := Cert.ReferenceIdeal.Gen.facts) (hPre_finite := Pre.facts) := by
  intro m g m' g' hpre hagree
  have hreal := fun c => @Pre.reals Pre.facts _ _ (hpre c)
  refine ⟨_, _, _, _, Cert.KernelIdeal.Results.run m g (fun c => (hreal c).1) (fun c => (hreal c).2), ?_⟩
  refine (θ_run _ _ _).mono (fun r h c => ?_) (Cert.ReferenceIdeal.Ref.run m' g')
  obtain ⟨h0, h1, h2, h3, h4, h5⟩ := h c
  rw [(hagree c).1, (hagree c).2] at h0 h1 h2 h3
  exact ⟨h0, h1, h2, h3, h4, h5⟩

/-- The claim. -/
theorem claim : Cert.Claim :=
  ⟨Cert.Kernel.Gen.facts, Cert.KernelIdeal.Gen.facts, Cert.ReferenceIdeal.Gen.facts, Pre.facts,
    frame_kernel, frame_kernelIdeal, fun m g _ => frame_kernelIdeal m g trivial, frame_referenceIdeal,
    fun m g _ => frame_referenceIdeal m g trivial, preserves, algebraic⟩

end Cert.Proof

end
